-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_search_succeeds [hPre_search_succeeds : Cert.Pre_search_succeeds.Facts] (m : (ℓ : Loc Cert.KernelIdeal.nD Cert.KernelIdeal.τ Cert.KernelIdeal.sig) → Buf (Elt Ideal) ℓ) : Prop :=
  ∀ c : Dev Cert.KernelIdeal.nD,
    (Cert.Pre_search_succeeds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_search_succeeds [hPre_search_succeeds : Cert.Pre_search_succeeds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_search_succeeds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_search_succeeds [hKernelIdeal : Cert.KernelIdeal.Facts] [hPre_search_succeeds : Cert.Pre_search_succeeds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_search_succeeds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_search_succeeds [hReferenceIdeal : Cert.ReferenceIdeal.Facts] [hPre_search_succeeds : Cert.Pre_search_succeeds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_search_succeeds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_search_succeeds [hKernelIdeal : Cert.KernelIdeal.Facts] [hReferenceIdeal : Cert.ReferenceIdeal.Facts] [hPre_search_succeeds : Cert.Pre_search_succeeds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_search_succeeds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_search_succeeds : Cert.Pre_search_succeeds.Facts),
    quiescent_Kernel (hKernel := hKernel)
    ∧ quiescent_KernelIdeal (hKernelIdeal := hKernelIdeal)
    ∧ quiescent_KernelIdeal_pre_search_succeeds (hKernelIdeal := hKernelIdeal) (hPre_search_succeeds := hPre_search_succeeds)
    ∧ quiescent_ReferenceIdeal (hReferenceIdeal := hReferenceIdeal)
    ∧ quiescent_ReferenceIdeal_pre_search_succeeds (hReferenceIdeal := hReferenceIdeal) (hPre_search_succeeds := hPre_search_succeeds)
    ∧ preserves_Kernel_KernelIdeal
    ∧ algebraic_KernelIdeal_ReferenceIdeal_pre_search_succeeds (hKernelIdeal := hKernelIdeal) (hReferenceIdeal := hReferenceIdeal) (hPre_search_succeeds := hPre_search_succeeds)
-- ==== Pre_search_succeeds.lean ====
abbrev S1024x128 : Shape := ⟨2, ![1024, 128]⟩
abbrev S64x128 : Shape := ⟨2, ![64, 128]⟩
abbrev S64 : Shape := ⟨1, ![64]⟩
abbrev S18x64 : Shape := ⟨2, ![18, 64]⟩
abbrev S18 : Shape := ⟨1, ![18]⟩
abbrev S100000x64 : Shape := ⟨2, ![100000, 64]⟩
abbrev S100000x1 : Shape := ⟨2, ![100000, 1]⟩
abbrev S128x64 : Shape := ⟨2, ![128, 64]⟩
abbrev S1024x64 : Shape := ⟨2, ![1024, 64]⟩
abbrev S1x64 : Shape := ⟨2, ![1, 64]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S64x100000 : Shape := ⟨2, ![64, 100000]⟩
abbrev S1024x51 : Shape := ⟨2, ![1024, 51]⟩
abbrev S1024x50 : Shape := ⟨2, ![1024, 50]⟩

class Facts : Prop where
  transposes_S64x128_S128x64_1_0 : S64x128.Transposes [1, 0] S128x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  reducesTo_S1024x64_S1024_d1 : S1024x64.ReducesTo [1] S1024
  h_S_ : 0 < S_.numel
  bcast_S1024_S1024x1_0 : S1024.BroadcastsInDim S1024x1 (![0] : Fin 1 → Fin S1024x1.rank)
  reducesTo_S100000x64_S100000_d1 : S100000x64.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x64_S64x100000_1_0 : S100000x64.Transposes [1, 0] S64x100000
  bcast_S_S1024x100000 : S_.BroadcastsInDim S1024x100000 (![] : Fin 0 → Fin S1024x100000.rank)
  reducesTo_S1024x64_S_d0_1 : S1024x64.ReducesTo [0, 1] S_
  bcast_S_S100000x64 : S_.BroadcastsInDim S100000x64 (![] : Fin 0 → Fin S100000x64.rank)
  reducesTo_S100000x64_S_d0_1 : S100000x64.ReducesTo [0, 1] S_
  sliceFits_S1024x100000_S1024x51 : S1024x100000.Slices (fun _ => 0) S1024x51
  slices_S1024x51_S1024x50_0_0 : S1024x51.Slices ![0, 0] S1024x50
  slices_S1024x51_S1024x50_0_1 : S1024x51.Slices ![0, 1] S1024x50
  reducesTo_S1024x50_S_d0_1 : S1024x50.ReducesTo [0, 1] S_
  reducesTo_S1024x100000_S1024_d1 : S1024x100000.ReducesTo [1] S1024
  bcast_S_S1024x1 : S_.BroadcastsInDim S1024x1 (![] : Fin 0 → Fin S1024x1.rank)
  reducesTo_S1024x1_S_d0_1 : S1024x1.ReducesTo [0, 1] S_
  dot_S1024x128_S128x64_S1024x64_1_0_0_1_n_n_wf : DotDims.WF S1024x128 S128x64 S1024x64 [1] [0] [0] [1] [] []
  dot_S1024x64_S64x100000_S1024x100000_1_0_0_1_n_n_wf : DotDims.WF S1024x64 S64x100000 S1024x100000 [1] [0] [0] [1] [] []

variable [Facts]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def fn_relu {F : FTy → Type} [FloatOps F] (arg0 : FVec F S1024x64 .f32) : FVec F S1024x64 .f32 :=
  let cst : FVec F S_ .f32 := constant S_ .f32 0x00000000#32
  let v0 : FVec F S1024x64 .f32 := broadcastInDim S1024x64 ![] bcast_S_S1024x64 cst
  let v1 : FVec F S1024x64 .f32 := maximumf arg0 v0
  v1

def fn_where {F : FTy → Type} [FloatOps F] (arg0 : IVec S1024x100000 1) (arg1 : FVec F S_ .f32) (arg2 : FVec F S_ .f32) : FVec F S1024x100000 .f32 :=
  let v0 : FVec F S1024x100000 .f32 := broadcastInDim S1024x100000 ![] bcast_S_S1024x100000 arg1
  let v1 : FVec F S1024x100000 .f32 := broadcastInDim S1024x100000 ![] bcast_S_S1024x100000 arg2
  let v2 : FVec F S1024x100000 .f32 := select arg0 v0 v1
  v2

def fn_where_0 {F : FTy → Type} [FloatOps F] (arg0 : IVec S1024x1 1) (arg1 : FVec F S1024x1 .f32) (arg2 : FVec F S1024x1 .f32) : FVec F S1024x1 .f32 :=
  let v0 : FVec F S1024x1 .f32 := select arg0 arg1 arg2
  v0

def fn_where_1 {F : FTy → Type} [FloatOps F] (arg0 : IVec S1024x1 1) (arg1 : FVec F S_ .f32) (arg2 : FVec F S1024x1 .f32) : FVec F S1024x1 .f32 :=
  let v0 : FVec F S_ .f32 := id arg1
  let v1 : FVec F S1024x1 .f32 := broadcastInDim S1024x1 ![] bcast_S_S1024x1 v0
  let v2 : FVec F S1024x1 .f32 := select arg0 v1 arg2
  v2

def fn_clip {F : FTy → Type} [FloatOps F] (arg0 : FVec F S1024x1 .f32) (arg1 : FVec F S1024x1 .f32) (arg2 : FVec F S1024x1 .f32) : FVec F S1024x1 .f32 :=
  let v0 : FVec F S1024x1 .f32 := maximumf arg1 arg0
  let v1 : FVec F S1024x1 .f32 := minimumf arg2 v0
  v1

def fn_where_2 {F : FTy → Type} [FloatOps F] (arg0 : IVec S1024x1 1) (arg1 : FVec F S_ .f32) (arg2 : FVec F S_ .f32) : FVec F S1024x1 .f32 :=
  let v0 : FVec F S1024x1 .f32 := broadcastInDim S1024x1 ![] bcast_S_S1024x1 arg1
  let v1 : FVec F S1024x1 .f32 := broadcastInDim S1024x1 ![] bcast_S_S1024x1 arg2
  let v2 : FVec F S1024x1 .f32 := select arg0 v0 v1
  v2

def fn_search_pass_part3 {F : FTy → Type} [FloatOps F] (v10 : IVec S1024x1 1) (v17 : IVec S1024x1 1) (v25 : FVec F S1024x1 .f32) (v27 : FVec F S1024x1 .f32) (v31 : FVec F S1024x1 .f32) (v34 : FVec F S1024x1 .f32) (v50 : FVec F S1024x1 .f32) (v52 : IVec S1024x1 1) (v53 : FVec F S1024x1 .f32) (cst_16 : FVec F S_ .f32) : FVec F S1024x1 .f32 × FVec F S1024x1 .f32 × FVec F S1024x1 .f32 × FVec F S1024x1 .f32 × FVec F S1024x1 .f32 × FVec F S1024x1 .f32 × IVec S1024x1 1 :=
  let v54 : FVec F S1024x1 .f32 := broadcastInDim S1024x1 ![] bcast_S_S1024x1 cst_16
  let v55 : FVec F S1024x1 .f32 := mulf v54 v53
  let v56 : FVec F S1024x1 .f32 := fn_where_0 (F := F) v52 v55 v50
  let cst_17 : FVec F S_ .f32 := constant S_ .f32 0x3F800000#32
  let cst_18 : FVec F S_ .f32 := constant S_ .f32 0xBF800000#32
  let v57 : FVec F S1024x1 .f32 := fn_where_2 (F := F) v17 cst_17 cst_18
  (v25, v27, v34, v31, v57, v56, v10)

def fn_search_pass_part2 {F : FTy → Type} [FloatOps F] (v10 : IVec S1024x1 1) (v17 : IVec S1024x1 1) (v25 : FVec F S1024x1 .f32) (v27 : FVec F S1024x1 .f32) (v31 : FVec F S1024x1 .f32) (v34 : FVec F S1024x1 .f32) (v35 : FVec F S1024x1 .f32) : FVec F S1024x1 .f32 × FVec F S1024x1 .f32 × FVec F S1024x1 .f32 × FVec F S1024x1 .f32 × FVec F S1024x1 .f32 × FVec F S1024x1 .f32 × IVec S1024x1 1 :=
  let v36 : FVec F S1024x1 .f32 := mulf v25 v31
  let v37 : FVec F S1024x1 .f32 := mulf v27 v34
  let v38 : FVec F S1024x1 .f32 := subf v36 v37
  let cst_11 : FVec F S_ .f32 := constant S_ .f32 0x00000000#32
  let v39 : FVec F S1024x1 .f32 := broadcastInDim S1024x1 ![] bcast_S_S1024x1 cst_11
  let v40 : IVec S1024x1 1 := cmpf .oeq v35 v39
  let cst_12 : FVec F S_ .f32 := constant S_ .f32 0x3F800000#32
  let v41 : FVec F S1024x1 .f32 := fn_where_1 (F := F) v40 cst_12 v35
  let v42 : FVec F S1024x1 .f32 := Host.divf v38 v41
  let v43 : FVec F S1024x1 .f32 := subf v27 v25
  let cst_13 : FVec F S_ .f32 := constant S_ .f32 0x3A83126F#32
  let v44 : FVec F S1024x1 .f32 := broadcastInDim S1024x1 ![] bcast_S_S1024x1 cst_13
  let v45 : FVec F S1024x1 .f32 := mulf v44 v43
  let v46 : FVec F S1024x1 .f32 := addf v25 v45
  let cst_14 : FVec F S_ .f32 := constant S_ .f32 0x3A83126F#32
  let v47 : FVec F S1024x1 .f32 := broadcastInDim S1024x1 ![] bcast_S_S1024x1 cst_14
  let v48 : FVec F S1024x1 .f32 := mulf v47 v43
  let v49 : FVec F S1024x1 .f32 := subf v27 v48
  let v50 : FVec F S1024x1 .f32 := fn_clip (F := F) v42 v46 v49
  let cst_15 : FVec F S_ .f32 := constant S_ .f32 0x00000000#32
  let v51 : FVec F S1024x1 .f32 := broadcastInDim S1024x1 ![] bcast_S_S1024x1 cst_15
  let v52 : IVec S1024x1 1 := cmpf .oeq v31 v51
  let v53 : FVec F S1024x1 .f32 := addf v25 v27
  let cst_16 : FVec F S_ .f32 := constant S_ .f32 0x3F000000#32
  fn_search_pass_part3 (F := F) v10 v17 v25 v27 v31 v34 v50 v52 v53 cst_16

def fn_search_pass_part1 {F : FTy → Type} [FloatOps F] (arg1 : FVec F S1024x1 .f32) (arg2 : FVec F S1024x1 .f32) (arg3 : FVec F S1024x1 .f32) (arg4 : FVec F S1024x1 .f32) (arg5 : FVec F S1024x1 .f32) (arg6 : FVec F S1024x1 .f32) (v10 : IVec S1024x1 1) (v15 : FVec F S1024x1 .f32) (cst_6 : FVec F S_ .f32) : FVec F S1024x1 .f32 × FVec F S1024x1 .f32 × FVec F S1024x1 .f32 × FVec F S1024x1 .f32 × FVec F S1024x1 .f32 × FVec F S1024x1 .f32 × IVec S1024x1 1 :=
  let v16 : FVec F S1024x1 .f32 := broadcastInDim S1024x1 ![] bcast_S_S1024x1 cst_6
  let v17 : IVec S1024x1 1 := cmpf .oge v15 v16
  let v18 : IVec S1024x1 1 := noti v17
  let cst_7 : FVec F S_ .f32 := constant S_ .f32 0x00000000#32
  let v19 : FVec F S1024x1 .f32 := broadcastInDim S1024x1 ![] bcast_S_S1024x1 cst_7
  let v20 : IVec S1024x1 1 := cmpf .olt arg5 v19
  let v21 : IVec S1024x1 1 := andi v18 v20
  let cst_8 : FVec F S_ .f32 := constant S_ .f32 0x00000000#32
  let v22 : FVec F S1024x1 .f32 := broadcastInDim S1024x1 ![] bcast_S_S1024x1 cst_8
  let v23 : IVec S1024x1 1 := cmpf .ogt arg5 v22
  let v24 : IVec S1024x1 1 := andi v17 v23
  let v25 : FVec F S1024x1 .f32 := fn_where_0 (F := F) v17 arg1 arg6
  let v26 : FVec F S1024x1 .f32 := fn_where_0 (F := F) v17 arg3 v15
  let v27 : FVec F S1024x1 .f32 := fn_where_0 (F := F) v17 arg6 arg2
  let v28 : FVec F S1024x1 .f32 := fn_where_0 (F := F) v17 v15 arg4
  let cst_9 : FVec F S_ .f32 := constant S_ .f32 0x3F000000#32
  let v29 : FVec F S1024x1 .f32 := broadcastInDim S1024x1 ![] bcast_S_S1024x1 cst_9
  let v30 : FVec F S1024x1 .f32 := mulf v28 v29
  let v31 : FVec F S1024x1 .f32 := fn_where_0 (F := F) v21 v30 v28
  let cst_10 : FVec F S_ .f32 := constant S_ .f32 0x3F000000#32
  let v32 : FVec F S1024x1 .f32 := broadcastInDim S1024x1 ![] bcast_S_S1024x1 cst_10
  let v33 : FVec F S1024x1 .f32 := mulf v26 v32
  let v34 : FVec F S1024x1 .f32 := fn_where_0 (F := F) v24 v33 v26
  let v35 : FVec F S1024x1 .f32 := subf v31 v34
  fn_search_pass_part2 (F := F) v10 v17 v25 v27 v31 v34 v35

def fn_search_pass {F : FTy → Type} [FloatOps F] (arg0 : FVec F S1024x100000 .f32) (arg1 : FVec F S1024x1 .f32) (arg2 : FVec F S1024x1 .f32) (arg3 : FVec F S1024x1 .f32) (arg4 : FVec F S1024x1 .f32) (arg5 : FVec F S1024x1 .f32) (arg6 : FVec F S1024x1 .f32) (arg7 : IVec S1024x1 1) : FVec F S1024x1 .f32 × FVec F S1024x1 .f32 × FVec F S1024x1 .f32 × FVec F S1024x1 .f32 × FVec F S1024x1 .f32 × FVec F S1024x1 .f32 × IVec S1024x1 1 :=
  let v0 : FVec F S1024x100000 .f32 := broadcastInDim S1024x100000 ![0, 1] bcast_S1024x1_S1024x100000_0_1 arg6
  let v1 : IVec S1024x100000 1 := cmpf .ole arg0 v0
  let cst : FVec F S_ .f32 := constant S_ .f32 0x3F800000#32
  let cst_0 : FVec F S_ .f32 := constant S_ .f32 0x00000000#32
  let v2 : FVec F S1024x100000 .f32 := fn_where (F := F) v1 cst cst_0
  let cst_1 : FVec F S_ .f32 := constant S_ .f32 0x00000000#32
  let v3 : FVec F S1024 .f32 := (fun x v => Host.reduceAdd x v reducesTo_S1024x100000_S1024_d1 h_S_) v2 cst_1
  let v4 : FVec F S1024x1 .f32 := broadcastInDim S1024x1 ![0] bcast_S1024_S1024x1_0 v3
  let cst_2 : FVec F S_ .f32 := constant S_ .f32 0x42300000#32
  let v5 : FVec F S1024x1 .f32 := broadcastInDim S1024x1 ![] bcast_S_S1024x1 cst_2
  let v6 : IVec S1024x1 1 := cmpf .oge v4 v5
  let cst_3 : FVec F S_ .f32 := constant S_ .f32 0x42440000#32
  let v7 : FVec F S1024x1 .f32 := broadcastInDim S1024x1 ![] bcast_S_S1024x1 cst_3
  let v8 : IVec S1024x1 1 := cmpf .ole v4 v7
  let v9 : IVec S1024x1 1 := andi v6 v8
  let v10 : IVec S1024x1 1 := ori arg7 v9
  let cst_4 : FVec F S_ .f32 := constant S_ .f32 0x3F800000#32
  let v11 : FVec F S1024x1 .f32 := broadcastInDim S1024x1 ![] bcast_S_S1024x1 cst_4
  let v12 : FVec F S1024x1 .f32 := addf v4 v11
  let v13 : FVec F S1024x1 .f32 := Host.log v12
  let cst_5 : FVec F S_ .f32 := constant S_ .f32 0x407668D1#32
  let v14 : FVec F S1024x1 .f32 := broadcastInDim S1024x1 ![] bcast_S_S1024x1 cst_5
  let v15 : FVec F S1024x1 .f32 := subf v13 v14
  let cst_6 : FVec F S_ .f32 := constant S_ .f32 0x00000000#32
  fn_search_pass_part1 (F := F) arg1 arg2 arg3 arg4 arg5 arg6 v10 v15 cst_6

def fn_part6 {F : FTy → Type} [FloatOps F] (main_v66 : IVec S_ 1) (main_v67 : IVec S_ 1) : IVec S_ 1 :=
  let main_v68 : IVec S_ 1 := andi main_v66 main_v67
  main_v68

def fn_part5 {F : FTy → Type} [FloatOps F] (main_v19 : FVec F S1024x100000 .f32) (main_v27 : IVec S_ 1) (main_v32 : IVec S_ 1) (main_v62_0 : FVec F S1024x1 .f32) (main_v62_1 : FVec F S1024x1 .f32) (main_v62_2 : FVec F S1024x1 .f32) (main_v62_3 : FVec F S1024x1 .f32) (main_v62_4 : FVec F S1024x1 .f32) (main_v62_5 : FVec F S1024x1 .f32) (main_v62_6 : IVec S1024x1 1) : IVec S_ 1 :=
  let main_v63_0 : FVec F S1024x1 .f32 := (fn_search_pass (F := F) main_v19 main_v62_0 main_v62_1 main_v62_2 main_v62_3 main_v62_4 main_v62_5 main_v62_6).1
  let main_v63_1 : FVec F S1024x1 .f32 := (fn_search_pass (F := F) main_v19 main_v62_0 main_v62_1 main_v62_2 main_v62_3 main_v62_4 main_v62_5 main_v62_6).2.1
  let main_v63_2 : FVec F S1024x1 .f32 := (fn_search_pass (F := F) main_v19 main_v62_0 main_v62_1 main_v62_2 main_v62_3 main_v62_4 main_v62_5 main_v62_6).2.2.1
  let main_v63_3 : FVec F S1024x1 .f32 := (fn_search_pass (F := F) main_v19 main_v62_0 main_v62_1 main_v62_2 main_v62_3 main_v62_4 main_v62_5 main_v62_6).2.2.2.1
  let main_v63_4 : FVec F S1024x1 .f32 := (fn_search_pass (F := F) main_v19 main_v62_0 main_v62_1 main_v62_2 main_v62_3 main_v62_4 main_v62_5 main_v62_6).2.2.2.2.1
  let main_v63_5 : FVec F S1024x1 .f32 := (fn_search_pass (F := F) main_v19 main_v62_0 main_v62_1 main_v62_2 main_v62_3 main_v62_4 main_v62_5 main_v62_6).2.2.2.2.2.1
  let main_v63_6 : IVec S1024x1 1 := (fn_search_pass (F := F) main_v19 main_v62_0 main_v62_1 main_v62_2 main_v62_3 main_v62_4 main_v62_5 main_v62_6).2.2.2.2.2.2
  let main_v64_0 : FVec F S1024x1 .f32 := (fn_search_pass (F := F) main_v19 main_v63_0 main_v63_1 main_v63_2 main_v63_3 main_v63_4 main_v63_5 main_v63_6).1
  let main_v64_1 : FVec F S1024x1 .f32 := (fn_search_pass (F := F) main_v19 main_v63_0 main_v63_1 main_v63_2 main_v63_3 main_v63_4 main_v63_5 main_v63_6).2.1
  let main_v64_2 : FVec F S1024x1 .f32 := (fn_search_pass (F := F) main_v19 main_v63_0 main_v63_1 main_v63_2 main_v63_3 main_v63_4 main_v63_5 main_v63_6).2.2.1
  let main_v64_3 : FVec F S1024x1 .f32 := (fn_search_pass (F := F) main_v19 main_v63_0 main_v63_1 main_v63_2 main_v63_3 main_v63_4 main_v63_5 main_v63_6).2.2.2.1
  let main_v64_4 : FVec F S1024x1 .f32 := (fn_search_pass (F := F) main_v19 main_v63_0 main_v63_1 main_v63_2 main_v63_3 main_v63_4 main_v63_5 main_v63_6).2.2.2.2.1
  let main_v64_5 : FVec F S1024x1 .f32 := (fn_search_pass (F := F) main_v19 main_v63_0 main_v63_1 main_v63_2 main_v63_3 main_v63_4 main_v63_5 main_v63_6).2.2.2.2.2.1
  let main_v64_6 : IVec S1024x1 1 := (fn_search_pass (F := F) main_v19 main_v63_0 main_v63_1 main_v63_2 main_v63_3 main_v63_4 main_v63_5 main_v63_6).2.2.2.2.2.2
  let main_v65_0 : FVec F S1024x1 .f32 := (fn_search_pass (F := F) main_v19 main_v64_0 main_v64_1 main_v64_2 main_v64_3 main_v64_4 main_v64_5 main_v64_6).1
  let main_v65_1 : FVec F S1024x1 .f32 := (fn_search_pass (F := F) main_v19 main_v64_0 main_v64_1 main_v64_2 main_v64_3 main_v64_4 main_v64_5 main_v64_6).2.1
  let main_v65_2 : FVec F S1024x1 .f32 := (fn_search_pass (F := F) main_v19 main_v64_0 main_v64_1 main_v64_2 main_v64_3 main_v64_4 main_v64_5 main_v64_6).2.2.1
  let main_v65_3 : FVec F S1024x1 .f32 := (fn_search_pass (F := F) main_v19 main_v64_0 main_v64_1 main_v64_2 main_v64_3 main_v64_4 main_v64_5 main_v64_6).2.2.2.1
  let main_v65_4 : FVec F S1024x1 .f32 := (fn_search_pass (F := F) main_v19 main_v64_0 main_v64_1 main_v64_2 main_v64_3 main_v64_4 main_v64_5 main_v64_6).2.2.2.2.1
  let main_v65_5 : FVec F S1024x1 .f32 := (fn_search_pass (F := F) main_v19 main_v64_0 main_v64_1 main_v64_2 main_v64_3 main_v64_4 main_v64_5 main_v64_6).2.2.2.2.2.1
  let main_v65_6 : IVec S1024x1 1 := (fn_search_pass (F := F) main_v19 main_v64_0 main_v64_1 main_v64_2 main_v64_3 main_v64_4 main_v64_5 main_v64_6).2.2.2.2.2.2
  let main_v66 : IVec S_ 1 := andi main_v27 main_v32
  let main_c_17 : IVec S_ 1 := constantI S_ 1 1#1
  let main_v67 : IVec S_ 1 := (fun x v => Host.reduce IntOp.andi x v reducesTo_S1024x1_S_d0_1 h_S_) main_v65_6 main_c_17
  fn_part6 (F := F) main_v66 main_v67

def fn_part4 {F : FTy → Type} [FloatOps F] (main_v19 : FVec F S1024x100000 .f32) (main_v27 : IVec S_ 1) (main_v32 : IVec S_ 1) (main_v58_0 : FVec F S1024x1 .f32) (main_v58_1 : FVec F S1024x1 .f32) (main_v58_2 : FVec F S1024x1 .f32) (main_v58_3 : FVec F S1024x1 .f32) (main_v58_4 : FVec F S1024x1 .f32) (main_v58_5 : FVec F S1024x1 .f32) (main_v58_6 : IVec S1024x1 1) (main_v59_0 : FVec F S1024x1 .f32) (main_v59_1 : FVec F S1024x1 .f32) (main_v59_2 : FVec F S1024x1 .f32) (main_v59_3 : FVec F S1024x1 .f32) : IVec S_ 1 :=
  let main_v59_4 : FVec F S1024x1 .f32 := (fn_search_pass (F := F) main_v19 main_v58_0 main_v58_1 main_v58_2 main_v58_3 main_v58_4 main_v58_5 main_v58_6).2.2.2.2.1
  let main_v59_5 : FVec F S1024x1 .f32 := (fn_search_pass (F := F) main_v19 main_v58_0 main_v58_1 main_v58_2 main_v58_3 main_v58_4 main_v58_5 main_v58_6).2.2.2.2.2.1
  let main_v59_6 : IVec S1024x1 1 := (fn_search_pass (F := F) main_v19 main_v58_0 main_v58_1 main_v58_2 main_v58_3 main_v58_4 main_v58_5 main_v58_6).2.2.2.2.2.2
  let main_v60_0 : FVec F S1024x1 .f32 := (fn_search_pass (F := F) main_v19 main_v59_0 main_v59_1 main_v59_2 main_v59_3 main_v59_4 main_v59_5 main_v59_6).1
  let main_v60_1 : FVec F S1024x1 .f32 := (fn_search_pass (F := F) main_v19 main_v59_0 main_v59_1 main_v59_2 main_v59_3 main_v59_4 main_v59_5 main_v59_6).2.1
  let main_v60_2 : FVec F S1024x1 .f32 := (fn_search_pass (F := F) main_v19 main_v59_0 main_v59_1 main_v59_2 main_v59_3 main_v59_4 main_v59_5 main_v59_6).2.2.1
  let main_v60_3 : FVec F S1024x1 .f32 := (fn_search_pass (F := F) main_v19 main_v59_0 main_v59_1 main_v59_2 main_v59_3 main_v59_4 main_v59_5 main_v59_6).2.2.2.1
  let main_v60_4 : FVec F S1024x1 .f32 := (fn_search_pass (F := F) main_v19 main_v59_0 main_v59_1 main_v59_2 main_v59_3 main_v59_4 main_v59_5 main_v59_6).2.2.2.2.1
  let main_v60_5 : FVec F S1024x1 .f32 := (fn_search_pass (F := F) main_v19 main_v59_0 main_v59_1 main_v59_2 main_v59_3 main_v59_4 main_v59_5 main_v59_6).2.2.2.2.2.1
  let main_v60_6 : IVec S1024x1 1 := (fn_search_pass (F := F) main_v19 main_v59_0 main_v59_1 main_v59_2 main_v59_3 main_v59_4 main_v59_5 main_v59_6).2.2.2.2.2.2
  let main_v61_0 : FVec F S1024x1 .f32 := (fn_search_pass (F := F) main_v19 main_v60_0 main_v60_1 main_v60_2 main_v60_3 main_v60_4 main_v60_5 main_v60_6).1
  let main_v61_1 : FVec F S1024x1 .f32 := (fn_search_pass (F := F) main_v19 main_v60_0 main_v60_1 main_v60_2 main_v60_3 main_v60_4 main_v60_5 main_v60_6).2.1
  let main_v61_2 : FVec F S1024x1 .f32 := (fn_search_pass (F := F) main_v19 main_v60_0 main_v60_1 main_v60_2 main_v60_3 main_v60_4 main_v60_5 main_v60_6).2.2.1
  let main_v61_3 : FVec F S1024x1 .f32 := (fn_search_pass (F := F) main_v19 main_v60_0 main_v60_1 main_v60_2 main_v60_3 main_v60_4 main_v60_5 main_v60_6).2.2.2.1
  let main_v61_4 : FVec F S1024x1 .f32 := (fn_search_pass (F := F) main_v19 main_v60_0 main_v60_1 main_v60_2 main_v60_3 main_v60_4 main_v60_5 main_v60_6).2.2.2.2.1
  let main_v61_5 : FVec F S1024x1 .f32 := (fn_search_pass (F := F) main_v19 main_v60_0 main_v60_1 main_v60_2 main_v60_3 main_v60_4 main_v60_5 main_v60_6).2.2.2.2.2.1
  let main_v61_6 : IVec S1024x1 1 := (fn_search_pass (F := F) main_v19 main_v60_0 main_v60_1 main_v60_2 main_v60_3 main_v60_4 main_v60_5 main_v60_6).2.2.2.2.2.2
  let main_v62_0 : FVec F S1024x1 .f32 := (fn_search_pass (F := F) main_v19 main_v61_0 main_v61_1 main_v61_2 main_v61_3 main_v61_4 main_v61_5 main_v61_6).1
  let main_v62_1 : FVec F S1024x1 .f32 := (fn_search_pass (F := F) main_v19 main_v61_0 main_v61_1 main_v61_2 main_v61_3 main_v61_4 main_v61_5 main_v61_6).2.1
  let main_v62_2 : FVec F S1024x1 .f32 := (fn_search_pass (F := F) main_v19 main_v61_0 main_v61_1 main_v61_2 main_v61_3 main_v61_4 main_v61_5 main_v61_6).2.2.1
  let main_v62_3 : FVec F S1024x1 .f32 := (fn_search_pass (F := F) main_v19 main_v61_0 main_v61_1 main_v61_2 main_v61_3 main_v61_4 main_v61_5 main_v61_6).2.2.2.1
  let main_v62_4 : FVec F S1024x1 .f32 := (fn_search_pass (F := F) main_v19 main_v61_0 main_v61_1 main_v61_2 main_v61_3 main_v61_4 main_v61_5 main_v61_6).2.2.2.2.1
  let main_v62_5 : FVec F S1024x1 .f32 := (fn_search_pass (F := F) main_v19 main_v61_0 main_v61_1 main_v61_2 main_v61_3 main_v61_4 main_v61_5 main_v61_6).2.2.2.2.2.1
  let main_v62_6 : IVec S1024x1 1 := (fn_search_pass (F := F) main_v19 main_v61_0 main_v61_1 main_v61_2 main_v61_3 main_v61_4 main_v61_5 main_v61_6).2.2.2.2.2.2
  fn_part5 (F := F) main_v19 main_v27 main_v32 main_v62_0 main_v62_1 main_v62_2 main_v62_3 main_v62_4 main_v62_5 main_v62_6

def fn_part3 {F : FTy → Type} [FloatOps F] (main_v19 : FVec F S1024x100000 .f32) (main_v27 : IVec S_ 1) (main_v32 : IVec S_ 1) (main_v42 : FVec F S1024x1 .f32) (main_v48 : FVec F S1024x1 .f32) (main_v49 : FVec F S1024x1 .f32) (main_v50 : FVec F S1024x1 .f32) (main_v51 : FVec F S1024x1 .f32) (main_v52 : FVec F S1024x1 .f32) : IVec S_ 1 :=
  let main_cst_15 : FVec F S_ .f32 := constant S_ .f32 0x3DCCCCCD#32
  let main_v53 : FVec F S1024x1 .f32 := broadcastInDim S1024x1 ![] bcast_S_S1024x1 main_cst_15
  let main_v54 : FVec F S1024x1 .f32 := mulf main_v53 main_v52
  let main_v55 : FVec F S1024x1 .f32 := addf main_v42 main_v54
  let main_c_16 : IVec S_ 1 := constantI S_ 1 0#1
  let main_v56 : IVec S1024x1 1 := broadcastInDim S1024x1 ![] bcast_S_S1024x1 main_c_16
  let main_v57_0 : FVec F S1024x1 .f32 := (fn_search_pass (F := F) main_v19 main_v42 main_v48 main_v49 main_v50 main_v51 main_v55 main_v56).1
  let main_v57_1 : FVec F S1024x1 .f32 := (fn_search_pass (F := F) main_v19 main_v42 main_v48 main_v49 main_v50 main_v51 main_v55 main_v56).2.1
  let main_v57_2 : FVec F S1024x1 .f32 := (fn_search_pass (F := F) main_v19 main_v42 main_v48 main_v49 main_v50 main_v51 main_v55 main_v56).2.2.1
  let main_v57_3 : FVec F S1024x1 .f32 := (fn_search_pass (F := F) main_v19 main_v42 main_v48 main_v49 main_v50 main_v51 main_v55 main_v56).2.2.2.1
  let main_v57_4 : FVec F S1024x1 .f32 := (fn_search_pass (F := F) main_v19 main_v42 main_v48 main_v49 main_v50 main_v51 main_v55 main_v56).2.2.2.2.1
  let main_v57_5 : FVec F S1024x1 .f32 := (fn_search_pass (F := F) main_v19 main_v42 main_v48 main_v49 main_v50 main_v51 main_v55 main_v56).2.2.2.2.2.1
  let main_v57_6 : IVec S1024x1 1 := (fn_search_pass (F := F) main_v19 main_v42 main_v48 main_v49 main_v50 main_v51 main_v55 main_v56).2.2.2.2.2.2
  let main_v58_0 : FVec F S1024x1 .f32 := (fn_search_pass (F := F) main_v19 main_v57_0 main_v57_1 main_v57_2 main_v57_3 main_v57_4 main_v57_5 main_v57_6).1
  let main_v58_1 : FVec F S1024x1 .f32 := (fn_search_pass (F := F) main_v19 main_v57_0 main_v57_1 main_v57_2 main_v57_3 main_v57_4 main_v57_5 main_v57_6).2.1
  let main_v58_2 : FVec F S1024x1 .f32 := (fn_search_pass (F := F) main_v19 main_v57_0 main_v57_1 main_v57_2 main_v57_3 main_v57_4 main_v57_5 main_v57_6).2.2.1
  let main_v58_3 : FVec F S1024x1 .f32 := (fn_search_pass (F := F) main_v19 main_v57_0 main_v57_1 main_v57_2 main_v57_3 main_v57_4 main_v57_5 main_v57_6).2.2.2.1
  let main_v58_4 : FVec F S1024x1 .f32 := (fn_search_pass (F := F) main_v19 main_v57_0 main_v57_1 main_v57_2 main_v57_3 main_v57_4 main_v57_5 main_v57_6).2.2.2.2.1
  let main_v58_5 : FVec F S1024x1 .f32 := (fn_search_pass (F := F) main_v19 main_v57_0 main_v57_1 main_v57_2 main_v57_3 main_v57_4 main_v57_5 main_v57_6).2.2.2.2.2.1
  let main_v58_6 : IVec S1024x1 1 := (fn_search_pass (F := F) main_v19 main_v57_0 main_v57_1 main_v57_2 main_v57_3 main_v57_4 main_v57_5 main_v57_6).2.2.2.2.2.2
  let main_v59_0 : FVec F S1024x1 .f32 := (fn_search_pass (F := F) main_v19 main_v58_0 main_v58_1 main_v58_2 main_v58_3 main_v58_4 main_v58_5 main_v58_6).1
  let main_v59_1 : FVec F S1024x1 .f32 := (fn_search_pass (F := F) main_v19 main_v58_0 main_v58_1 main_v58_2 main_v58_3 main_v58_4 main_v58_5 main_v58_6).2.1
  let main_v59_2 : FVec F S1024x1 .f32 := (fn_search_pass (F := F) main_v19 main_v58_0 main_v58_1 main_v58_2 main_v58_3 main_v58_4 main_v58_5 main_v58_6).2.2.1
  let main_v59_3 : FVec F S1024x1 .f32 := (fn_search_pass (F := F) main_v19 main_v58_0 main_v58_1 main_v58_2 main_v58_3 main_v58_4 main_v58_5 main_v58_6).2.2.2.1
  fn_part4 (F := F) main_v19 main_v27 main_v32 main_v58_0 main_v58_1 main_v58_2 main_v58_3 main_v58_4 main_v58_5 main_v58_6 main_v59_0 main_v59_1 main_v59_2 main_v59_3

def fn_part2 {F : FTy → Type} [FloatOps F] (main_v19 : FVec F S1024x100000 .f32) (main_v27 : IVec S_ 1) (main_v32 : IVec S_ 1) (main_v34 : FVec F S1024x1 .f32) (main_v35 : FVec F S1024 .f32) : IVec S_ 1 :=
  let main_v36 : FVec F S1024x1 .f32 := broadcastInDim S1024x1 ![0] bcast_S1024_S1024x1_0 main_v35
  let main_v37 : FVec F S1024x1 .f32 := Host.absf main_v34
  let main_cst_8 : FVec F S_ .f32 := constant S_ .f32 0x358637BD#32
  let main_v38 : FVec F S1024x1 .f32 := broadcastInDim S1024x1 ![] bcast_S_S1024x1 main_cst_8
  let main_v39 : FVec F S1024x1 .f32 := mulf main_v37 main_v38
  let main_cst_9 : FVec F S_ .f32 := constant S_ .f32 0x3A83126F#32
  let main_v40 : FVec F S1024x1 .f32 := broadcastInDim S1024x1 ![] bcast_S_S1024x1 main_cst_9
  let main_v41 : FVec F S1024x1 .f32 := addf main_v39 main_v40
  let main_v42 : FVec F S1024x1 .f32 := subf main_v34 main_v41
  let main_v43 : FVec F S1024x1 .f32 := Host.absf main_v36
  let main_cst_10 : FVec F S_ .f32 := constant S_ .f32 0x358637BD#32
  let main_v44 : FVec F S1024x1 .f32 := broadcastInDim S1024x1 ![] bcast_S_S1024x1 main_cst_10
  let main_v45 : FVec F S1024x1 .f32 := mulf main_v43 main_v44
  let main_cst_11 : FVec F S_ .f32 := constant S_ .f32 0x3A83126F#32
  let main_v46 : FVec F S1024x1 .f32 := broadcastInDim S1024x1 ![] bcast_S_S1024x1 main_cst_11
  let main_v47 : FVec F S1024x1 .f32 := addf main_v45 main_v46
  let main_v48 : FVec F S1024x1 .f32 := addf main_v36 main_v47
  let main_cst_12 : FVec F S_ .f32 := constant S_ .f32 0xC07668D1#32
  let main_v49 : FVec F S1024x1 .f32 := broadcastInDim S1024x1 ![] bcast_S_S1024x1 main_cst_12
  let main_cst_13 : FVec F S_ .f32 := constant S_ .f32 0x40F5358F#32
  let main_v50 : FVec F S1024x1 .f32 := broadcastInDim S1024x1 ![] bcast_S_S1024x1 main_cst_13
  let main_cst_14 : FVec F S_ .f32 := constant S_ .f32 0x00000000#32
  let main_v51 : FVec F S1024x1 .f32 := broadcastInDim S1024x1 ![] bcast_S_S1024x1 main_cst_14
  let main_v52 : FVec F S1024x1 .f32 := subf main_v48 main_v42
  fn_part3 (F := F) main_v19 main_v27 main_v32 main_v42 main_v48 main_v49 main_v50 main_v51 main_v52

def fn_part1 {F : FTy → Type} [FloatOps F] (main_arg5 : FVec F S100000x64 .f32) (main_v5 : FVec F S1024x64 .f32) (main_v19 : FVec F S1024x100000 .f32) (main_cst_2 : FVec F S_ .f32) : IVec S_ 1 :=
  let main_v20 : FVec F S1024x64 .f32 := broadcastInDim S1024x64 ![] bcast_S_S1024x64 main_cst_2
  let main_v21 : IVec S1024x64 1 := cmpf .ole main_v5 main_v20
  let main_c : IVec S_ 1 := constantI S_ 1 1#1
  let main_v22 : IVec S_ 1 := (fun x v => Host.reduce IntOp.andi x v reducesTo_S1024x64_S_d0_1 h_S_) main_v21 main_c
  let main_v23 : FVec F S100000x64 .f32 := Host.absf main_arg5
  let main_cst_3 : FVec F S_ .f32 := constant S_ .f32 0x49742400#32
  let main_v24 : FVec F S100000x64 .f32 := broadcastInDim S100000x64 ![] bcast_S_S100000x64 main_cst_3
  let main_v25 : IVec S100000x64 1 := cmpf .ole main_v23 main_v24
  let main_c_4 : IVec S_ 1 := constantI S_ 1 1#1
  let main_v26 : IVec S_ 1 := (fun x v => Host.reduce IntOp.andi x v reducesTo_S100000x64_S_d0_1 h_S_) main_v25 main_c_4
  let main_v27 : IVec S_ 1 := andi main_v22 main_v26
  let main_v28 : FVec F S1024x100000 .f32 := Host.negf main_v19
  let main_values : FVec F S1024x51 .f32 := (fun x => (Host.topK S1024x51 1 (FloatOps.cmpfTotal .gt) x sliceFits_S1024x100000_S1024x51).1) main_v28
  let main_indices : IVec S1024x51 32 := (fun x => (Host.topK S1024x51 1 (FloatOps.cmpfTotal .gt) x sliceFits_S1024x100000_S1024x51).2) main_v28
  let main_v29 : FVec F S1024x50 .f32 := (extractStridedSlice S1024x50 ![0, 0] · slices_S1024x51_S1024x50_0_0) main_values
  let main_v30 : FVec F S1024x50 .f32 := (extractStridedSlice S1024x50 ![0, 1] · slices_S1024x51_S1024x50_0_1) main_values
  let main_v31 : IVec S1024x50 1 := cmpf .ogt main_v29 main_v30
  let main_c_5 : IVec S_ 1 := constantI S_ 1 1#1
  let main_v32 : IVec S_ 1 := (fun x v => Host.reduce IntOp.andi x v reducesTo_S1024x50_S_d0_1 h_S_) main_v31 main_c_5
  let main_cst_6 : FVec F S_ .f32 := constant S_ .f32 0x7F800000#32
  let main_v33 : FVec F S1024 .f32 := (fun x v => Host.reduce FloatOps.minimumf x v reducesTo_S1024x100000_S1024_d1 h_S_) main_v19 main_cst_6
  let main_v34 : FVec F S1024x1 .f32 := broadcastInDim S1024x1 ![0] bcast_S1024_S1024x1_0 main_v33
  let main_cst_7 : FVec F S_ .f32 := constant S_ .f32 0xFF800000#32
  let main_v35 : FVec F S1024 .f32 := (fun x v => Host.reduce FloatOps.maximumf x v reducesTo_S1024x100000_S1024_d1 h_S_) main_v19 main_cst_7
  fn_part2 (F := F) main_v19 main_v27 main_v32 main_v34 main_v35

def fn {F : FTy → Type} [FloatOps F] (main_arg0 : FVec F S1024x128 .f32) (main_arg1 : FVec F S64x128 .f32) (main_arg2 : FVec F S64 .f32) (main_arg3 : FVec F S18x64 .f32) (main_arg4 : FVec F S18 .f32) (main_arg5 : FVec F S100000x64 .f32) (main_arg6 : FVec F S100000x1 .f32) : IVec S_ 1 :=
  let main_v0 : FVec F S128x64 .f32 := (transpose S128x64 [1, 0] · transposes_S64x128_S128x64_1_0) main_arg1
  let main_v1 : FVec F S1024x64 .f32 := (fun l r => Host.dotGeneral dot_S1024x128_S128x64_S1024x64_1_0_0_1_n_n none l r) main_arg0 main_v0
  let main_v2 : FVec F S1x64 .f32 := broadcastInDim S1x64 ![1] bcast_S64_S1x64_1 main_arg2
  let main_v3 : FVec F S1024x64 .f32 := broadcastInDim S1024x64 ![0, 1] bcast_S1x64_S1024x64_0_1 main_v2
  let main_v4 : FVec F S1024x64 .f32 := addf main_v1 main_v3
  let main_v5 : FVec F S1024x64 .f32 := fn_relu (F := F) main_v4
  let main_v6 : FVec F S1024x64 .f32 := mulf main_v5 main_v5
  let main_cst : FVec F S_ .f32 := constant S_ .f32 0x00000000#32
  let main_v7 : FVec F S1024 .f32 := (fun x v => Host.reduceAdd x v reducesTo_S1024x64_S1024_d1 h_S_) main_v6 main_cst
  let main_v8 : FVec F S1024x1 .f32 := broadcastInDim S1024x1 ![0] bcast_S1024_S1024x1_0 main_v7
  let main_v9 : FVec F S100000x64 .f32 := mulf main_arg5 main_arg5
  let main_cst_0 : FVec F S_ .f32 := constant S_ .f32 0x00000000#32
  let main_v10 : FVec F S100000 .f32 := (fun x v => Host.reduceAdd x v reducesTo_S100000x64_S100000_d1 h_S_) main_v9 main_cst_0
  let main_v11 : FVec F S1x100000 .f32 := broadcastInDim S1x100000 ![1] bcast_S100000_S1x100000_1 main_v10
  let main_v12 : FVec F S1024x100000 .f32 := broadcastInDim S1024x100000 ![0, 1] bcast_S1024x1_S1024x100000_0_1 main_v8
  let main_v13 : FVec F S1024x100000 .f32 := broadcastInDim S1024x100000 ![0, 1] bcast_S1x100000_S1024x100000_0_1 main_v11
  let main_v14 : FVec F S1024x100000 .f32 := addf main_v12 main_v13
  let main_v15 : FVec F S64x100000 .f32 := (transpose S64x100000 [1, 0] · transposes_S100000x64_S64x100000_1_0) main_arg5
  let main_v16 : FVec F S1024x100000 .f32 := (fun l r => Host.dotGeneral dot_S1024x64_S64x100000_S1024x100000_1_0_0_1_n_n none l r) main_v5 main_v15
  let main_cst_1 : FVec F S_ .f32 := constant S_ .f32 0x40000000#32
  let main_v17 : FVec F S1024x100000 .f32 := broadcastInDim S1024x100000 ![] bcast_S_S1024x100000 main_cst_1
  let main_v18 : FVec F S1024x100000 .f32 := mulf main_v17 main_v16
  let main_v19 : FVec F S1024x100000 .f32 := subf main_v14 main_v18
  let main_cst_2 : FVec F S_ .f32 := constant S_ .f32 0x49742400#32
  fn_part1 (F := F) main_arg5 main_v5 main_v19 main_cst_2
-- ==== Kernel.lean ====
abbrev S1024x128 : Shape := ⟨2, ![1024, 128]⟩
abbrev S64x128 : Shape := ⟨2, ![64, 128]⟩
abbrev S64 : Shape := ⟨1, ![64]⟩
abbrev S18x64 : Shape := ⟨2, ![18, 64]⟩
abbrev S18 : Shape := ⟨1, ![18]⟩
abbrev S100000x64 : Shape := ⟨2, ![100000, 64]⟩
abbrev S100000x1 : Shape := ⟨2, ![100000, 1]⟩
abbrev S1024x64 : Shape := ⟨2, ![1024, 64]⟩
abbrev S1024x18 : Shape := ⟨2, ![1024, 18]⟩
abbrev S1x64 : Shape := ⟨2, ![1, 64]⟩
abbrev S1x18 : Shape := ⟨2, ![1, 18]⟩
abbrev S1024 : Shape := ⟨1, ![1024]⟩
abbrev S1024x1 : Shape := ⟨2, ![1024, 1]⟩
abbrev S_ : Shape := ⟨0, ![]⟩
abbrev S100352x64 : Shape := ⟨2, ![100352, 64]⟩
abbrev S100000 : Shape := ⟨1, ![100000]⟩
abbrev S100352 : Shape := ⟨1, ![100352]⟩
abbrev S49x1x2048 : Shape := ⟨3, ![49, 1, 2048]⟩
abbrev S2048x64 : Shape := ⟨2, ![2048, 64]⟩
abbrev S1x1x2048 : Shape := ⟨3, ![1, 1, 2048]⟩
abbrev S1024x6 : Shape := ⟨2, ![1024, 6]⟩
abbrev S1024x2048 : Shape := ⟨2, ![1024, 2048]⟩
abbrev S2048 : Shape := ⟨1, ![2048]⟩
abbrev S1x2048 : Shape := ⟨2, ![1, 2048]⟩
abbrev S1024x5 : Shape := ⟨2, ![1024, 5]⟩

abbrev nBuf : Space → Nat
  | .hbm => 18
  | .vmem => 30
  | .smem => 0
  | _ => 0

abbrev bufTy : (tb : Table) → Fin (tcTables nBuf tb) → BufTy
  | .hbm, ⟨0, _⟩ => ⟨S1024x128, .f32⟩
  | .hbm, ⟨1, _⟩ => ⟨S64x128, .f32⟩
  | .hbm, ⟨2, _⟩ => ⟨S64, .f32⟩
  | .hbm, ⟨3, _⟩ => ⟨S18x64, .f32⟩
  | .hbm, ⟨4, _⟩ => ⟨S18, .f32⟩
  | .hbm, ⟨5, _⟩ => ⟨S100000x64, .f32⟩
  | .hbm, ⟨6, _⟩ => ⟨S100000x1, .f32⟩
  | .hbm, ⟨7, _⟩ => ⟨S1024x64, .f32⟩
  | .hbm, ⟨8, _⟩ => ⟨S1024x18, .f32⟩
  | .hbm, ⟨9, _⟩ => ⟨S_, .f32⟩
  | .hbm, ⟨10, _⟩ => ⟨S_, .f32⟩
  | .hbm, ⟨11, _⟩ => ⟨S100352x64, .f32⟩
  | .hbm, ⟨12, _⟩ => ⟨S100000, .f32⟩
  | .hbm, ⟨13, _⟩ => ⟨S_, .i32⟩
  | .hbm, ⟨14, _⟩ => ⟨S_, .f32⟩
  | .hbm, ⟨15, _⟩ => ⟨S100352, .f32⟩
  | .hbm, ⟨16, _⟩ => ⟨S49x1x2048, .f32⟩
  | .hbm, ⟨17, _⟩ => ⟨S1024x1, .f32⟩
  | .local _ .vmem, ⟨0, _⟩ => ⟨S1024x128, .f32⟩
  | .local _ .vmem, ⟨1, _⟩ => ⟨S64x128, .f32⟩
  | .local _ .vmem, ⟨2, _⟩ => ⟨S64, .f32⟩
  | .local _ .vmem, ⟨3, _⟩ => ⟨S18x64, .f32⟩
  | .local _ .vmem, ⟨4, _⟩ => ⟨S18, .f32⟩
  | .local _ .vmem, ⟨5, _⟩ => ⟨S1024x64, .f32⟩
  | .local _ .vmem, ⟨6, _⟩ => ⟨S1024x18, .f32⟩
  | .local _ .vmem, ⟨7, _⟩ => ⟨S1024x64, .f32⟩
  | .local _ .vmem, ⟨8, _⟩ => ⟨S2048x64, .f32⟩
  | .local _ .vmem, ⟨9, _⟩ => ⟨S2048x64, .f32⟩
  | .local _ .vmem, ⟨10, _⟩ => ⟨S1x1x2048, .f32⟩
  | .local _ .vmem, ⟨11, _⟩ => ⟨S1x1x2048, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x6, .f32⟩
  | .local _ .vmem, ⟨29, _⟩ => ⟨S1024x6, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc1_scratch6 : Ref sig .tc := ⟨.vmem, 19, rfl⟩
abbrev cc1_scratch7 : Ref sig .tc := ⟨.vmem, 20, rfl⟩
abbrev cc1_scratch8 : Ref sig .tc := ⟨.vmem, 21, rfl⟩
abbrev cc1_scratch9 : Ref sig .tc := ⟨.vmem, 22, rfl⟩
abbrev cc1_scratch10 : Ref sig .tc := ⟨.vmem, 23, rfl⟩
abbrev cc1_scratch11 : Ref sig .tc := ⟨.vmem, 24, rfl⟩
abbrev cc1_scratch12 : Ref sig .tc := ⟨.vmem, 25, rfl⟩
abbrev cc1_scratch13 : Ref sig .tc := ⟨.vmem, 26, rfl⟩
abbrev cc1_scratch14 : Ref sig .tc := ⟨.vmem, 27, rfl⟩
abbrev cc1_scratch15 : Ref sig .tc := ⟨.vmem, 28, rfl⟩
abbrev cc1_scratch16 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![11, 49], ![false, false]⟩

def k1_cond9 (i : grid1.Coords) : BitVec 1 :=
  let arg0 : BitVec 32 := BitVec.ofNat 32 (i 0).val
  let c10_i32_15 : BitVec 32 := 10#32
  let v38 : BitVec 1 := Scalar.cmpi .eq arg0 c10_i32_15
  let arg1 : BitVec 32 := BitVec.ofNat 32 (i 1).val
  let c48_i32 : BitVec 32 := 48#32
  let v39 : BitVec 1 := Scalar.cmpi .eq arg1 c48_i32
  let v40 : BitVec 1 := Scalar.andi v38 v39
  let v41 : BitVec 32 := Scalar.extui v40
  let c0_i32_16 : BitVec 32 := 0#32
  let v42 : BitVec 1 := Scalar.cmpi .ne v41 c0_i32_16
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]
-- ==== ReferenceIdeal.lean ====
abbrev S1024x128 : Shape := ⟨2, ![1024, 128]⟩
abbrev S64x128 : Shape := ⟨2, ![64, 128]⟩
abbrev S64 : Shape := ⟨1, ![64]⟩
abbrev S18x64 : Shape := ⟨2, ![18, 64]⟩
abbrev S18 : Shape := ⟨1, ![18]⟩
abbrev S100000x64 : Shape := ⟨2, ![100000, 64]⟩
abbrev S100000x1 : Shape := ⟨2, ![100000, 1]⟩
abbrev S128x64 : Shape := ⟨2, ![128, 64]⟩
abbrev S1024x64 : Shape := ⟨2, ![1024, 64]⟩
abbrev S1x64 : Shape := ⟨2, ![1, 64]⟩
abbrev S_ : Shape := ⟨0, ![]⟩
abbrev S64x18 : Shape := ⟨2, ![64, 18]⟩
abbrev S1024x18 : Shape := ⟨2, ![1024, 18]⟩
abbrev S1x18 : Shape := ⟨2, ![1, 18]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S64x100000 : Shape := ⟨2, ![64, 100000]⟩
abbrev S1024x50 : Shape := ⟨2, ![1024, 50]⟩
abbrev S1024x50x1 : Shape := ⟨3, ![1024, 50, 1]⟩
abbrev S1 : Shape := ⟨1, ![1]⟩
abbrev S1x1x1 : Shape := ⟨3, ![1, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S64x128, .f32⟩
  | .hbm, ⟨2, _⟩ => ⟨S64, .f32⟩
  | .hbm, ⟨3, _⟩ => ⟨S18x64, .f32⟩
  | .hbm, ⟨4, _⟩ => ⟨S18, .f32⟩
  | .hbm, ⟨5, _⟩ => ⟨S100000x64, .f32⟩
  | .hbm, ⟨6, _⟩ => ⟨S100000x1, .f32⟩
  | .hbm, ⟨7, _⟩ => ⟨S128x64, .f32⟩
  | .hbm, ⟨8, _⟩ => ⟨S1024x64, .f32⟩
  | .hbm, ⟨9, _⟩ => ⟨S1x64, .f32⟩
  | .hbm, ⟨10, _⟩ => ⟨S1024x64, .f32⟩
  | .hbm, ⟨11, _⟩ => ⟨S1024x64, .f32⟩
  | .hbm, ⟨12, _⟩ => ⟨S_, .f32⟩
  | .hbm, ⟨13, _⟩ => ⟨S1024x64, .f32⟩
  | .hbm, ⟨14, _⟩ => ⟨S1024x64, .f32⟩
  | .hbm, ⟨15, _⟩ => ⟨S64x18, .f32⟩
  | .hbm, ⟨16, _⟩ => ⟨S1024x18, .f32⟩
  | .hbm, ⟨17, _⟩ => ⟨S1x18, .f32⟩
  | .hbm, ⟨18, _⟩ => ⟨S1024x18, .f32⟩
  | .hbm, ⟨19, _⟩ => ⟨S1024x18, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024x1, .f32⟩
  | .hbm, ⟨26, _⟩ => ⟨S1024x18, .f32⟩
  | .hbm, ⟨27, _⟩ => ⟨S1024x18, .f32⟩
  | .hbm, ⟨28, _⟩ => ⟨S1024x18, .f32⟩
  | .hbm, ⟨29, _⟩ => ⟨S_, .f32⟩
  | .hbm, ⟨30, _⟩ => ⟨S1024, .f32⟩
  | .hbm, ⟨31, _⟩ => ⟨S1024x1, .f32⟩
  | .hbm, ⟨32, _⟩ => ⟨S1024x18, .f32⟩
  | .hbm, ⟨33, _⟩ => ⟨S1024x18, .f32⟩
  | .hbm, ⟨34, _⟩ => ⟨S1024x64, .f32⟩
  | .hbm, ⟨35, _⟩ => ⟨S_, .f32⟩
  | .hbm, ⟨36, _⟩ => ⟨S1024, .f32⟩
  | .hbm, ⟨37, _⟩ => ⟨S1024x1, .f32⟩
  | .hbm, ⟨38, _⟩ => ⟨S100000x64, .f32⟩
  | .hbm, ⟨39, _⟩ => ⟨S_, .f32⟩
  | .hbm, ⟨40, _⟩ => ⟨S100000, .f32⟩
  | .hbm, ⟨41, _⟩ => ⟨S1x100000, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S64x100000, .f32⟩
  | .hbm, ⟨46, _⟩ => ⟨S1024x100000, .f32⟩
  | .hbm, ⟨47, _⟩ => ⟨S_, .f32⟩
  | .hbm, ⟨48, _⟩ => ⟨S1024x100000, .f32⟩
  | .hbm, ⟨49, _⟩ => ⟨S1024x100000, .f32⟩
  | .hbm, ⟨50, _⟩ => ⟨S1024x100000, .f32⟩
  | .hbm, ⟨51, _⟩ => ⟨S1024x100000, .f32⟩
  | .hbm, ⟨52, _⟩ => ⟨S1024x50, .f32⟩
  | .hbm, ⟨53, _⟩ => ⟨S1024x50, .i32⟩
  | .hbm, ⟨54, _⟩ => ⟨S1024x50, .f32⟩
  | .hbm, ⟨55, _⟩ => ⟨S_, .f32⟩
  | .hbm, ⟨56, _⟩ => ⟨S1024x50, .f32⟩
  | .hbm, ⟨57, _⟩ => ⟨S1024x50, .f32⟩
  | .hbm, ⟨58, _⟩ => ⟨S_, .f32⟩
  | .hbm, ⟨59, _⟩ => ⟨S1024x50, .f32⟩
  | .hbm, ⟨60, _⟩ => ⟨S1024x50, .f32⟩
  | .hbm, ⟨61, _⟩ => ⟨S_, .f32⟩
  | .hbm, ⟨62, _⟩ => ⟨S1024, .f32⟩
  | .hbm, ⟨63, _⟩ => ⟨S1024x1, .f32⟩
  | .hbm, ⟨64, _⟩ => ⟨S1024x50, .f32⟩
  | .hbm, ⟨65, _⟩ => ⟨S1024x50, .f32⟩
  | .hbm, ⟨66, _⟩ => ⟨S100000, .f32⟩
  | .hbm, ⟨67, _⟩ => ⟨S_, .i32⟩
  | .hbm, ⟨68, _⟩ => ⟨S1024x50, .i32⟩
  | .hbm, ⟨69, _⟩ => ⟨S1024x50, .i1⟩
  | .hbm, ⟨70, _⟩ => ⟨S_, .i32⟩
  | .hbm, ⟨71, _⟩ => ⟨S1024x50, .i32⟩
  | .hbm, ⟨72, _⟩ => ⟨S1024x50, .i32⟩
  | .hbm, ⟨73, _⟩ => ⟨S1024x50, .i32⟩
  | .hbm, ⟨74, _⟩ => ⟨S1024x50x1, .i32⟩
  | .hbm, ⟨75, _⟩ => ⟨S1, .i32⟩
  | .hbm, ⟨76, _⟩ => ⟨S_, .i32⟩
  | .hbm, ⟨77, _⟩ => ⟨S1024x50x1, .i32⟩
  | .hbm, ⟨78, _⟩ => ⟨S1024x50x1, .i1⟩
  | .hbm, ⟨79, _⟩ => ⟨S1x1x1, .i32⟩
  | .hbm, ⟨80, _⟩ => ⟨S1024x50x1, .i32⟩
  | .hbm, ⟨81, _⟩ => ⟨S1024x50x1, .i1⟩
  | .hbm, ⟨82, _⟩ => ⟨S1024x50x1, .i1⟩
  | .hbm, ⟨83, _⟩ => ⟨S_, .i1⟩
  | .hbm, ⟨84, _⟩ => ⟨S1024x50, .i1⟩
  | .hbm, ⟨85, _⟩ => ⟨S1024x50, .f32⟩
  | .hbm, ⟨86, _⟩ => ⟨S_, .f32⟩
  | .hbm, ⟨87, _⟩ => ⟨S1024x50, .f32⟩
  | .hbm, ⟨88, _⟩ => ⟨S1024x50, .f32⟩
  | .hbm, ⟨89, _⟩ => ⟨S1024x50, .f32⟩
  | .hbm, ⟨90, _⟩ => ⟨S_, .f32⟩
  | .hbm, ⟨91, _⟩ => ⟨S1024, .f32⟩
  | .hbm, ⟨92, _⟩ => ⟨S1024x1, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_values : Ref sig .tc := ⟨.hbm, 52, rfl⟩
abbrev main_indices : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_cst : Ref sig .tc := ⟨.hbm, 86, rfl⟩
abbrev main_call1_v14 : Ref sig .tc := ⟨.hbm, 87, rfl⟩
abbrev main_v47 : Ref sig .tc := ⟨.hbm, 88, rfl⟩
abbrev main_v48 : Ref sig .tc := ⟨.hbm, 89, rfl⟩
abbrev main_cst_8 : Ref sig .tc := ⟨.hbm, 90, rfl⟩
abbrev main_v49 : Ref sig .tc := ⟨.hbm, 91, rfl⟩
abbrev main_v50 : Ref sig .tc := ⟨.hbm, 92, rfl⟩

abbrev nD : Nat := 1
abbrev τ : Topo := Topo.v7x

variable {F : FTy → Type} [FloatOps F]
-- ==== Proof.Step.lean ====
/-
  The second kernel call, one grid point at a time.

  The kernel keeps seventeen scratch buffers from one grid point to the next (`St`). Here each kind of grid point is a function
  from the scratch contents before to the scratch contents after, written with the names the generated skeleton gives to
  the kernel's arithmetic; and for each kind the body is run once, from the buffers at any contents to the buffers at the function's values.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Pipeline.Value
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Knn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch contents and how a grid point changes them -/

/-- The contents of the scratch buffers: the extremes of the distances, the search's bracket and its counts, the kept threshold
    with its count and the one above it, the partial sums, and the six columns of the sorted remainder with their values. -/
structure St (F : FTy → Type) where
  mn : Vec F S1024x1 .f32
  mx : Vec F S1024x1 .f32
  lo : Vec F S1024x1 .f32
  hi : Vec F S1024x1 .f32
  flo : Vec F S1024x1 .f32
  fhi : Vec F S1024x1 .f32
  tc : Vec F S1024x1 .f32
  sd : Vec F S1024x1 .f32
  cnt : Vec F S1024x1 .f32
  clo : Vec F S1024x1 .f32
  lov : Vec F S1024x1 .f32
  hiv : Vec F S1024x1 .f32
  hav : Vec F S1024x1 .f32
  sw : Vec F S1024x1 .f32
  swv : Vec F S1024x1 .f32
  mch : Vec F S1024x6 .f32
  vch : Vec F S1024x6 .f32

/-- The first grid point of the pass over extremes sets both to their starting values, -/
def stFirst (s : St F) : St F := { s with mn := k1_pay107, mx := k1_pay108 }
/-- and every grid point of that pass folds the chunk's distances in. -/
def stScan (i : grid1.Coords) (x2 : Vec F S1024x64 .f32) (x3 : Vec F S2048x64 .f32) (s : St F) : St F :=
  { s with mn := k1_pay125 i x2 x3 s.mn, mx := k1_pay126 i x2 x3 s.mx }
/-- The first counting pass starts the search from the extremes. -/
def stStart (s : St F) : St F :=
  { s with
    lo := k1_pay8 s.mn s.mn, hi := k1_pay9 s.mx s.mx, flo := k1_pay10, fhi := k1_pay11,
    tc := k1_pay114 (k1_pay6 s.mn s.mn) (k1_pay7 s.mx s.mx), sd := k1_pay109 k1_pay12, cnt := k1_pay118,
    clo := k1_pay110, lov := k1_pay111 (k1_pay6 s.mn s.mn), hiv := k1_pay112 (k1_pay7 s.mx s.mx), hav := k1_pay113 }
/-- Every later pass first uses the count of the pass before to move the bracket and choose the next threshold. -/
def stMove (s : St F) : St F :=
  { s with
    lo := k1_pay30 (k1_pay23 s.cnt s.tc s.lo), hi := k1_pay31 (k1_pay25 s.cnt s.tc s.hi),
    flo := k1_pay32 (k1_pay22 s.cnt s.sd) (k1_pay24 s.cnt s.flo), fhi := k1_pay115 (k1_pay27 (k1_pay21 s.cnt s.sd) (k1_pay26 s.cnt s.fhi)),
    tc := k1_pay117 (k1_pay29 (k1_pay21 s.cnt s.sd) (k1_pay22 s.cnt s.sd) (k1_pay23 s.cnt s.tc s.lo) (k1_pay24 s.cnt s.flo)
      (k1_pay25 s.cnt s.tc s.hi) (k1_pay26 s.cnt s.fhi)),
    sd := k1_pay116 (k1_pay20 s.cnt), cnt := k1_pay118,
    clo := k1_pay16 s.cnt s.tc s.hav s.lov s.clo, lov := k1_pay15 s.cnt s.tc s.hav s.lov s.lov,
    hiv := k1_pay18 s.cnt s.tc s.hiv s.hiv, hav := k1_pay17 s.cnt s.hav }
/-- A counting grid point adds the chunk's number of distances at most the threshold. -/
def stCount (x2 : Vec F S1024x64 .f32) (x3 : Vec F S2048x64 .f32) (s : St F) : St F :=
  { s with cnt := k1_pay127 x2 x3 s.tc s.cnt }
/-- The last pass starts from empty sums and an empty remainder. -/
def stReset (s : St F) : St F := { s with sw := k1_pay119, swv := k1_pay120, mch := k1_pay121, vch := k1_pay122 }

/-- The chunk's keys' values as the body loads them. -/
abbrev vals (x4 : Vec F S1x1x2048 .f32) : Vec F S1x1x2048 .f32 :=
  View.ld x4 (Rect.unit ![0, 0, 0] ![1, 1, 2048] inb_S1x1x2048_S1x1x2048_0_0_0)

/-- The six columns of the sorted remainder after a chunk: -/
def chainM (v26 : FVec F S1024x2048 .f32) (v43 : Vec F S1x1x2048 .f32) (v45 v46 : Vec F S1024x1 .f32) (v80 v81 : Vec F S1024x6 .f32) : Vec F S1024x6 .f32 :=
  let v44 := k1_pay33 v43
  let v77 := k1_pay38 v26 v45 v46
  let v78 := k1_pay39
  let v94 := k1_pay43 v26 v77 v78
  let v108 := k1_pay46 v81
  let v116 := k1_pay47 v26 v77 v78 v80
  let v118 := k1_pay48 v26 v77 v78 v80
  let v120 := k1_pay49 v26 v77 v78 v80
  let v122 := k1_pay50 v26 v44 v77 v78
  let v137 := k1_pay53 v94
  let v159 := k1_pay56 v94 v116
  let v167 := k1_pay57 v44 v81 v94 v108 v116 v118 v120 v122
  let v169 := k1_pay58 v94
  let v180 := k1_pay60 v137 v169
  let v202 := k1_pay63 v159 v169
  let v210 := k1_pay64 v44 v137 v159 v167 v169
  let v212 := k1_pay65 v137 v169
  let v214 := k1_pay66 v137 v169
  let v215 := k1_pay67
  let v216 := k1_pay68 v44
  let v223 := k1_pay69 v180 v214
  let v245 := k1_pay72 v202 v212
  let v253 := k1_pay73 v202 v210 v212 v214 v215 v216
  let v255 := k1_pay74 v180 v214
  let v257 := k1_pay75 v180 v214
  let v262 := k1_pay76 v44 v180 v214
  let v288 := k1_pay80 v245 v255
  let v296 := k1_pay81 v245 v253 v255 v262
  let v298 := k1_pay82 v223 v257
  let v307 := k1_pay83 v44 v223 v257
  let v309 := k1_pay84 v223 v245 v255 v257
  k1_pay3 v288 v298 v309 (Scalar.ofBits .f32 0x3F800000#32)
/-- and their values. -/
def chainV (v26 : FVec F S1024x2048 .f32) (v43 : Vec F S1x1x2048 .f32) (v45 v46 : Vec F S1024x1 .f32) (v80 v81 : Vec F S1024x6 .f32) : Vec F S1024x6 .f32 :=
  let v44 := k1_pay33 v43
  let v77 := k1_pay38 v26 v45 v46
  let v78 := k1_pay39
  let v94 := k1_pay43 v26 v77 v78
  let v108 := k1_pay46 v81
  let v116 := k1_pay47 v26 v77 v78 v80
  let v118 := k1_pay48 v26 v77 v78 v80
  let v120 := k1_pay49 v26 v77 v78 v80
  let v122 := k1_pay50 v26 v44 v77 v78
  let v137 := k1_pay53 v94
  let v159 := k1_pay56 v94 v116
  let v167 := k1_pay57 v44 v81 v94 v108 v116 v118 v120 v122
  let v169 := k1_pay58 v94
  let v180 := k1_pay60 v137 v169
  let v202 := k1_pay63 v159 v169
  let v210 := k1_pay64 v44 v137 v159 v167 v169
  let v212 := k1_pay65 v137 v169
  let v214 := k1_pay66 v137 v169
  let v215 := k1_pay67
  let v216 := k1_pay68 v44
  let v223 := k1_pay69 v180 v214
  let v245 := k1_pay72 v202 v212
  let v253 := k1_pay73 v202 v210 v212 v214 v215 v216
  let v255 := k1_pay74 v180 v214
  let v257 := k1_pay75 v180 v214
  let v262 := k1_pay76 v44 v180 v214
  let v288 := k1_pay80 v245 v255
  let v296 := k1_pay81 v245 v253 v255 v262
  let v298 := k1_pay82 v223 v257
  let v307 := k1_pay83 v44 v223 v257
  let v309 := k1_pay84 v223 v245 v255 v257
  k1_pay4 v296 v307 v309 (Scalar.ofBits .f32 0x3F800000#32)
/-- A grid point of the last pass adds the weights below the kept threshold and sorts the chunk's six next distances in. -/
def stLast (x2 : Vec F S1024x64 .f32) (x3 : Vec F S2048x64 .f32) (x4 : Vec F S1x1x2048 .f32) (s : St F) : St F :=
  { s with
    sw := k1_pay36 (k1_pay123 x2 x3) s.lov s.sw, swv := k1_pay37 (k1_pay123 x2 x3) (vals x4) s.lov s.swv,
    mch := chainM (k1_pay123 x2 x3) (vals x4) s.lov s.hiv s.mch s.vch, vch := chainV (k1_pay123 x2 x3) (vals x4) s.lov s.hiv s.mch s.vch }
/-- What the last grid point writes out: the weighted values over the weights, the remainder's columns counted in as far as
    the count below the threshold leaves room. -/
def stOut (s : St F) : Vec F S1024x1 .f32 :=
  let v43 := s.clo
  let m0 := View.ld s.mch (Rect.unit ![0, 0] ![1024, 1] inb_S1024x6_S1024x1_0_0)
  let m1 := View.ld s.mch (Rect.unit ![0, 1] ![1024, 1] inb_S1024x6_S1024x1_0_1)
  let m2 := View.ld s.mch (Rect.unit ![0, 2] ![1024, 1] inb_S1024x6_S1024x1_0_2)
  let m3 := View.ld s.mch (Rect.unit ![0, 3] ![1024, 1] inb_S1024x6_S1024x1_0_3)
  let m4 := View.ld s.mch (Rect.unit ![0, 4] ![1024, 1] inb_S1024x6_S1024x1_0_4)
  let m5 := View.ld s.mch (Rect.unit ![0, 5] ![1024, 1] inb_S1024x6_S1024x1_0_5)
  let v0 := View.ld s.vch (Rect.unit ![0, 0] ![1024, 1] inb_S1024x6_S1024x1_0_0)
  let v1 := View.ld s.vch (Rect.unit ![0, 1] ![1024, 1] inb_S1024x6_S1024x1_0_1)
  let v2 := View.ld s.vch (Rect.unit ![0, 2] ![1024, 1] inb_S1024x6_S1024x1_0_2)
  let v3 := View.ld s.vch (Rect.unit ![0, 3] ![1024, 1] inb_S1024x6_S1024x1_0_3)
  let v120 := m4
  let v121 := View.ld s.vch (Rect.unit ![0, 4] ![1024, 1] inb_S1024x6_S1024x1_0_4)
  let v5 := View.ld s.vch (Rect.unit ![0, 5] ![1024, 1] inb_S1024x6_S1024x1_0_5)
  let v45 := k1_pay85 v43
  let v61 := k1_pay88 v43 m0
  let v65 := k1_pay89 v43 m0 v0
  let v67 := v1
  let v72 := k1_pay90 v43 m1
  let v76 := k1_pay91 m1
  let v78 := k1_pay92 v43 m1
  let v101 := k1_pay95 v45 v65 v67 v72 v76 m2 v2
  let v108 := k1_pay96 v45 m3
  let v115 := k1_pay98 v45 v61 v78 m2 m3
  let v116 := k1_pay99 m3 v3
  let v117 := k1_pay100
  let v151 := k1_pay105 v45 v115 m4 m5
  let v155 := k1_pay106 v45 v101 v108 v116 v117 v120 v121 m5 v5
  k1_pay5 v151 v155 s.swv s.sw

/-! ## The kernel's branch conditions -/

/-- The kernel's test for the first grid point of all. -/
abbrev C1 (i : grid1.Coords) : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1
/-- The kernel's test for the first grid point of a later pass. -/
abbrev C2 (i : grid1.Coords) : Prop := Scalar.cmpi .ne (Scalar.extui (Scalar.andi (Scalar.cmpi .sge (BitVec.ofNat 32 (i 0).val) 1#32) (Scalar.cmpi .eq (BitVec.ofNat 32 (i 1).val) 0#32)) : BitVec 32) 0#32 = 1#1
/-- The kernel's test for the second pass. -/
abbrev C3 (i : grid1.Coords) : Prop := Scalar.cmpi .ne (Scalar.extui (Scalar.cmpi .eq (BitVec.ofNat 32 (i 0).val) 1#32) : BitVec 32) 0#32 = 1#1
/-- The kernel's test for a pass after the second. -/
abbrev C4 (i : grid1.Coords) : Prop := Scalar.cmpi .ne (Scalar.extui (Scalar.cmpi .sgt (BitVec.ofNat 32 (i 0).val) 1#32) : BitVec 32) 0#32 = 1#1
/-- The kernel's test for the last pass. -/
abbrev C5 (i : grid1.Coords) : Prop := Scalar.cmpi .ne (Scalar.extui (Scalar.cmpi .eq (BitVec.ofNat 32 (i 0).val) 10#32) : BitVec 32) 0#32 = 1#1
/-- The kernel's test for the first pass. -/
abbrev C6 (i : grid1.Coords) : Prop := Scalar.cmpi .ne (Scalar.extui (Scalar.cmpi .eq (BitVec.ofNat 32 (i 0).val) 0#32) : BitVec 32) 0#32 = 1#1
/-- The kernel's test for a counting pass. -/
abbrev C7 (i : grid1.Coords) : Prop := Scalar.cmpi .ne (Scalar.extui (Scalar.andi (Scalar.cmpi .sge (BitVec.ofNat 32 (i 0).val) 1#32) (Scalar.cmpi .sle (BitVec.ofNat 32 (i 0).val) 9#32)) : BitVec 32) 0#32 = 1#1

/-! ## The body, kind by kind -/

theorem hz : (![0, 0] : Fin 2 → Nat) = fun _ => 0 := funext fun a => by fin_cases a <;> rfl

variable (a2 : Memref sig .tc .vmem S1024x64 .f32) (w2 : a2.IsWhole) (a3 : Memref sig .tc .vmem S2048x64 .f32) (w3 : a3.IsWhole) (a4 : Memref sig .tc .vmem S1x1x2048 .f32) (w4 : a4.IsWhole) (a5 : Memref sig .tc .vmem S1024x1 .f32) (w5 : a5.IsWhole)
variable (a6 : Memref sig .tc .vmem S1024x1 .f32) (w6 : a6.IsWhole) (a7 : Memref sig .tc .vmem S1024x1 .f32) (w7 : a7.IsWhole) (a8 : Memref sig .tc .vmem S1024x1 .f32) (w8 : a8.IsWhole) (a9 : Memref sig .tc .vmem S1024x1 .f32) (w9 : a9.IsWhole) (a10 : Memref sig .tc .vmem S1024x1 .f32) (w10 : a10.IsWhole) (a11 : Memref sig .tc .vmem S1024x1 .f32) (w11 : a11.IsWhole)
variable (a12 : Memref sig .tc .vmem S1024x1 .f32) (w12 : a12.IsWhole) (a13 : Memref sig .tc .vmem S1024x1 .f32) (w13 : a13.IsWhole) (a14 : Memref sig .tc .vmem S1024x1 .f32) (w14 : a14.IsWhole) (a15 : Memref sig .tc .vmem S1024x1 .f32) (w15 : a15.IsWhole) (a16 : Memref sig .tc .vmem S1024x1 .f32) (w16 : a16.IsWhole) (a17 : Memref sig .tc .vmem S1024x1 .f32) (w17 : a17.IsWhole)
variable (a18 : Memref sig .tc .vmem S1024x1 .f32) (w18 : a18.IsWhole) (a19 : Memref sig .tc .vmem S1024x1 .f32) (w19 : a19.IsWhole) (a20 : Memref sig .tc .vmem S1024x1 .f32) (w20 : a20.IsWhole) (a21 : Memref sig .tc .vmem S1024x6 .f32) (w21 : a21.IsWhole) (a22 : Memref sig .tc .vmem S1024x6 .f32) (w22 : a22.IsWhole)

/-- The four windows' buffers held at `x2 … x5`, and the scratch buffers at the state `s`. -/
abbrev bundle (c : Dev nD) (x2 : Vec F S1024x64 .f32) (x3 : Vec F S2048x64 .f32) (x4 : Vec F S1x1x2048 .f32) (x5 : Vec F S1024x1 .f32) (s : St F) : sProp 𝕄 :=
  iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare s.mn ∗ owns (c : Thread nD τ) a7 fullShare s.mx ∗ owns (c : Thread nD τ) a8 fullShare s.lo ∗ owns (c : Thread nD τ) a9 fullShare s.hi ∗ owns (c : Thread nD τ) a10 fullShare s.flo ∗ owns (c : Thread nD τ) a11 fullShare s.fhi ∗ owns (c : Thread nD τ) a12 fullShare s.tc ∗ owns (c : Thread nD τ) a13 fullShare s.sd ∗ owns (c : Thread nD τ) a14 fullShare s.cnt ∗ owns (c : Thread nD τ) a15 fullShare s.clo ∗ owns (c : Thread nD τ) a16 fullShare s.lov ∗ owns (c : Thread nD τ) a17 fullShare s.hiv ∗ owns (c : Thread nD τ) a18 fullShare s.hav ∗ owns (c : Thread nD τ) a19 fullShare s.sw ∗ owns (c : Thread nD τ) a20 fullShare s.swv ∗ owns (c : Thread nD τ) a21 fullShare s.mch ∗ owns (c : Thread nD τ) a22 fullShare s.vch)

/-- A buffer whose contents read `X` is held at the canonical contents of `X`. -/
theorem held_at {S : Shape} {c : Dev nD} {a : Memref sig .tc .vmem S .f32} {f : a.view.ty.Contents (Elt F)} {X : S.Idx → Elt F .f32}
    (h : a.view.read (Elt F) f = X) :
    (a.view.loc (c : Thread nD τ) ↦[a.view.set]{fullShare} f : sProp 𝕄) ⊢ (a.view.loc (c : Thread nD τ) ↦[a.view.set]{fullShare} a.view.rep X) := by
  subst h
  exact (owns_intro (c : Thread nD τ) a fullShare f).trans (rep_of_owns (c : Thread nD τ) a fullShare _)

/-- A load of any part of a buffer just stored whole reads the stored contents there. -/
theorem readCov_whole {S : Shape} (v : View sig .tc .vmem S .f32) {off : Fin S.rank → Nat} (h : off = fun _ => 0)
    (inb : ∀ k, off k + S.size k ≤ S.size k) (w : S.Idx → Elt F .f32) (r : Rect S) :
    v.readCov [(⟨Rect.unit off S.size inb, w⟩ : View.Piece (Elt F) S .f32)] r.toLoadRect = View.ld w r := by
  rw [View.readCov_eq_canon', View.canon_unit_zero h]

/-- The last store through the whole buffer is what the buffer reads. -/
theorem read_last {S : Shape} {a : Memref sig .tc .vmem S .f32} {off : Fin S.rank → Nat} (h : off = fun _ => 0)
    (inb : ∀ k, off k + S.size k ≤ S.size k) (w : S.Idx → Elt F .f32) (L : List (View.Piece (Elt F) S .f32)) :
    a.view.read (Elt F) (a.view.writes (Elt F) a.view.junk ((⟨Rect.unit off S.size inb, w⟩ : View.Piece (Elt F) S .f32) :: L)) = w :=
  (View.read_writes_junk_eq_canon _ _).trans (View.canon_cons_unit_zero h inb w L)

set_option maxHeartbeats 16000000 in
/-- The body at the first grid point of all. -/
theorem body_p0j0 (c : Dev nD) (E : Set ℕ) (i : grid1.Coords) (h0 : C1 i) (h1 : ¬ C2 i) (h2 : C6 i) (h3 : ¬ C7 i) (h4 : ¬ C5 i) (h5 : ¬ k1_cond9 i = 1#1)
    (x2 : Vec F S1024x64 .f32) (x3 : Vec F S2048x64 .f32) (x4 : Vec F S1x1x2048 .f32) (x5 : Vec F S1024x1 .f32) (s : St F) (K : PUnit → sProp 𝕄) :
    iprop(bundle a2 a3 a4 a5 a6 a7 a8 a9 a10 a11 a12 a13 a14 a15 a16 a17 a18 a19 a20 a21 a22 c x2 x3 x4 x5 s ∗ (bundle a2 a3 a4 a5 a6 a7 a8 a9 a10 a11 a12 a13 a14 a15 a16 a17 a18 a19 a20 a21 a22 c x2 x3 x4 x5 (stScan i x2 x3 (stFirst s)) -∗ K ⟨⟩)) ⊢ wp frame (wpE (defs₀ (F := F)) Variants.none c none) E (cc1__main_body i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22) K := by
  simp only [cc1__main_body_eq_skeleton]; unfold cc1__main_body_skel
  unfold bundle
  simp only [owns_eq_rep]
  iintro ⟨⟨H2, H3, H4, H5, H6, H7, H8, H9, H10, H11, H12, H13, H14, H15, H16, H17, H18, H19, H20, H21, H22⟩, Hk⟩
  sl_exec!
  sl_step
  iapply Hk
  simp only [stFirst, stScan, stStart, stMove, stCount, stReset, stLast]
  iframe
  isplitl [H6]; rotate_left
  all_goals istop; refine held_at ?_; sl_unfold_words; rw [read_last hz]
  all_goals try simp only [readCov_whole (S := S1024x1) _ hz, readCov_whole (S := S1024x6) _ hz, View.readAt_eq_ld, View.read_rep,
    View.ld_unit_zero (S := S1024x1) hz, View.ld_unit_zero (S := S1024x6) hz, View.ld_unit_zero (S := S1024x64) hz, View.ld_unit_zero (S := S2048x64) hz]
  all_goals first | with_reducible rfl | (unfold chainM; with_reducible rfl) | (unfold chainV; with_reducible rfl) | (unfold stOut; dsimp only; unfold chainM chainV; with_reducible rfl)

set_option maxHeartbeats 16000000 in
/-- The body at the other grid points of the first pass. -/
theorem body_p0 (c : Dev nD) (E : Set ℕ) (i : grid1.Coords) (h0 : ¬ C1 i) (h1 : ¬ C2 i) (h2 : C6 i) (h3 : ¬ C7 i) (h4 : ¬ C5 i) (h5 : ¬ k1_cond9 i = 1#1)
    (x2 : Vec F S1024x64 .f32) (x3 : Vec F S2048x64 .f32) (x4 : Vec F S1x1x2048 .f32) (x5 : Vec F S1024x1 .f32) (s : St F) (K : PUnit → sProp 𝕄) :
    iprop(bundle a2 a3 a4 a5 a6 a7 a8 a9 a10 a11 a12 a13 a14 a15 a16 a17 a18 a19 a20 a21 a22 c x2 x3 x4 x5 s ∗ (bundle a2 a3 a4 a5 a6 a7 a8 a9 a10 a11 a12 a13 a14 a15 a16 a17 a18 a19 a20 a21 a22 c x2 x3 x4 x5 (stScan i x2 x3 s) -∗ K ⟨⟩)) ⊢ wp frame (wpE (defs₀ (F := F)) Variants.none c none) E (cc1__main_body i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22) K := by
  simp only [cc1__main_body_eq_skeleton]; unfold cc1__main_body_skel
  unfold bundle
  simp only [owns_eq_rep]
  iintro ⟨⟨H2, H3, H4, H5, H6, H7, H8, H9, H10, H11, H12, H13, H14, H15, H16, H17, H18, H19, H20, H21, H22⟩, Hk⟩
  sl_exec!
  sl_step
  iapply Hk
  simp only [stFirst, stScan, stStart, stMove, stCount, stReset, stLast]
  iframe
  isplitl [H6]; rotate_left
  all_goals istop; refine held_at ?_; sl_unfold_words; rw [read_last hz]
  all_goals try simp only [readCov_whole (S := S1024x1) _ hz, readCov_whole (S := S1024x6) _ hz, View.readAt_eq_ld, View.read_rep,
    View.ld_unit_zero (S := S1024x1) hz, View.ld_unit_zero (S := S1024x6) hz, View.ld_unit_zero (S := S1024x64) hz, View.ld_unit_zero (S := S2048x64) hz]
  all_goals first | with_reducible rfl | (unfold chainM; with_reducible rfl) | (unfold chainV; with_reducible rfl) | (unfold stOut; dsimp only; unfold chainM chainV; with_reducible rfl)

set_option maxHeartbeats 16000000 in
/-- The body at the first grid point of the second pass. -/
theorem body_p1j0 (c : Dev nD) (E : Set ℕ) (i : grid1.Coords) (h0 : ¬ C1 i) (h1 : C2 i) (h2 : C3 i) (h3 : ¬ C4 i) (h4 : ¬ C5 i) (h5 : ¬ C6 i) (h6 : C7 i) (h7 : ¬ k1_cond9 i = 1#1)
    (x2 : Vec F S1024x64 .f32) (x3 : Vec F S2048x64 .f32) (x4 : Vec F S1x1x2048 .f32) (x5 : Vec F S1024x1 .f32) (s : St F) (K : PUnit → sProp 𝕄) :
    iprop(bundle a2 a3 a4 a5 a6 a7 a8 a9 a10 a11 a12 a13 a14 a15 a16 a17 a18 a19 a20 a21 a22 c x2 x3 x4 x5 s ∗ (bundle a2 a3 a4 a5 a6 a7 a8 a9 a10 a11 a12 a13 a14 a15 a16 a17 a18 a19 a20 a21 a22 c x2 x3 x4 x5 (stCount x2 x3 (stStart s)) -∗ K ⟨⟩)) ⊢ wp frame (wpE (defs₀ (F := F)) Variants.none c none) E (cc1__main_body i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22) K := by
  simp only [cc1__main_body_eq_skeleton]; unfold cc1__main_body_skel
  unfold bundle
  simp only [owns_eq_rep]
  iintro ⟨⟨H2, H3, H4, H5, H6, H7, H8, H9, H10, H11, H12, H13, H14, H15, H16, H17, H18, H19, H20, H21, H22⟩, Hk⟩
  sl_exec!
  sl_step
  iapply Hk
  simp only [stFirst, stScan, stStart, stMove, stCount, stReset, stLast]
  iframe
  isplitl [H8]; rotate_left; isplitl [H9]; rotate_left; isplitl [H10]; rotate_left; isplitl [H11]; rotate_left; isplitl [H12]; rotate_left; isplitl [H13]; rotate_left; isplitl [H14]; rotate_left; isplitl [H15]; rotate_left; isplitl [H16]; rotate_left; isplitl [H17]; rotate_left
  all_goals istop; refine held_at ?_; sl_unfold_words; rw [read_last hz]
  all_goals try simp only [readCov_whole (S := S1024x1) _ hz, readCov_whole (S := S1024x6) _ hz, View.readAt_eq_ld, View.read_rep,
    View.ld_unit_zero (S := S1024x1) hz, View.ld_unit_zero (S := S1024x6) hz, View.ld_unit_zero (S := S1024x64) hz, View.ld_unit_zero (S := S2048x64) hz]
  all_goals first | with_reducible rfl | (unfold chainM; with_reducible rfl) | (unfold chainV; with_reducible rfl) | (unfold stOut; dsimp only; unfold chainM chainV; with_reducible rfl)

set_option maxHeartbeats 16000000 in
/-- The body at the first grid point of a later counting pass. -/
theorem body_pj0 (c : Dev nD) (E : Set ℕ) (i : grid1.Coords) (h0 : ¬ C1 i) (h1 : C2 i) (h2 : ¬ C3 i) (h3 : C4 i) (h4 : ¬ C5 i) (h5 : ¬ C6 i) (h6 : C7 i) (h7 : ¬ k1_cond9 i = 1#1)
    (x2 : Vec F S1024x64 .f32) (x3 : Vec F S2048x64 .f32) (x4 : Vec F S1x1x2048 .f32) (x5 : Vec F S1024x1 .f32) (s : St F) (K : PUnit → sProp 𝕄) :
    iprop(bundle a2 a3 a4 a5 a6 a7 a8 a9 a10 a11 a12 a13 a14 a15 a16 a17 a18 a19 a20 a21 a22 c x2 x3 x4 x5 s ∗ (bundle a2 a3 a4 a5 a6 a7 a8 a9 a10 a11 a12 a13 a14 a15 a16 a17 a18 a19 a20 a21 a22 c x2 x3 x4 x5 (stCount x2 x3 (stMove s)) -∗ K ⟨⟩)) ⊢ wp frame (wpE (defs₀ (F := F)) Variants.none c none) E (cc1__main_body i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22) K := by
  simp only [cc1__main_body_eq_skeleton]; unfold cc1__main_body_skel
  unfold bundle
  simp only [owns_eq_rep]
  iintro ⟨⟨H2, H3, H4, H5, H6, H7, H8, H9, H10, H11, H12, H13, H14, H15, H16, H17, H18, H19, H20, H21, H22⟩, Hk⟩
  sl_exec!
  sl_step
  iapply Hk
  simp only [stFirst, stScan, stStart, stMove, stCount, stReset, stLast]
  iframe
  isplitl [H8]; rotate_left; isplitl [H9]; rotate_left; isplitl [H10]; rotate_left; isplitl [H11]; rotate_left; isplitl [H12]; rotate_left; isplitl [H13]; rotate_left; isplitl [H14]; rotate_left; isplitl [H15]; rotate_left; isplitl [H16]; rotate_left; isplitl [H17]; rotate_left
  all_goals istop; refine held_at ?_; sl_unfold_words; rw [read_last hz]
  all_goals try simp only [readCov_whole (S := S1024x1) _ hz, readCov_whole (S := S1024x6) _ hz, View.readAt_eq_ld, View.read_rep,
    View.ld_unit_zero (S := S1024x1) hz, View.ld_unit_zero (S := S1024x6) hz, View.ld_unit_zero (S := S1024x64) hz, View.ld_unit_zero (S := S2048x64) hz]
  all_goals first | with_reducible rfl | (unfold chainM; with_reducible rfl) | (unfold chainV; with_reducible rfl) | (unfold stOut; dsimp only; unfold chainM chainV; with_reducible rfl)

set_option maxHeartbeats 16000000 in
/-- The body at the other grid points of a counting pass. -/
theorem body_pj (c : Dev nD) (E : Set ℕ) (i : grid1.Coords) (h0 : ¬ C1 i) (h1 : ¬ C2 i) (h2 : ¬ C5 i) (h3 : ¬ C6 i) (h4 : C7 i) (h5 : ¬ k1_cond9 i = 1#1)
    (x2 : Vec F S1024x64 .f32) (x3 : Vec F S2048x64 .f32) (x4 : Vec F S1x1x2048 .f32) (x5 : Vec F S1024x1 .f32) (s : St F) (K : PUnit → sProp 𝕄) :
    iprop(bundle a2 a3 a4 a5 a6 a7 a8 a9 a10 a11 a12 a13 a14 a15 a16 a17 a18 a19 a20 a21 a22 c x2 x3 x4 x5 s ∗ (bundle a2 a3 a4 a5 a6 a7 a8 a9 a10 a11 a12 a13 a14 a15 a16 a17 a18 a19 a20 a21 a22 c x2 x3 x4 x5 (stCount x2 x3 s) -∗ K ⟨⟩)) ⊢ wp frame (wpE (defs₀ (F := F)) Variants.none c none) E (cc1__main_body i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22) K := by
  simp only [cc1__main_body_eq_skeleton]; unfold cc1__main_body_skel
  unfold bundle
  simp only [owns_eq_rep]
  iintro ⟨⟨H2, H3, H4, H5, H6, H7, H8, H9, H10, H11, H12, H13, H14, H15, H16, H17, H18, H19, H20, H21, H22⟩, Hk⟩
  sl_exec!
  sl_step
  iapply Hk
  simp only [stFirst, stScan, stStart, stMove, stCount, stReset, stLast]
  iframe
  all_goals istop; refine held_at ?_; sl_unfold_words; rw [read_last hz]
  all_goals try simp only [readCov_whole (S := S1024x1) _ hz, readCov_whole (S := S1024x6) _ hz, View.readAt_eq_ld, View.read_rep,
    View.ld_unit_zero (S := S1024x1) hz, View.ld_unit_zero (S := S1024x6) hz, View.ld_unit_zero (S := S1024x64) hz, View.ld_unit_zero (S := S2048x64) hz]
  all_goals first | with_reducible rfl | (unfold chainM; with_reducible rfl) | (unfold chainV; with_reducible rfl) | (unfold stOut; dsimp only; unfold chainM chainV; with_reducible rfl)

set_option maxHeartbeats 16000000 in
/-- The body at the first grid point of the last pass. -/
theorem body_p10j0 (c : Dev nD) (E : Set ℕ) (i : grid1.Coords) (h0 : ¬ C1 i) (h1 : C2 i) (h2 : ¬ C3 i) (h3 : C4 i) (h4 : C5 i) (h5 : ¬ C6 i) (h6 : ¬ C7 i) (h7 : ¬ k1_cond9 i = 1#1)
    (x2 : Vec F S1024x64 .f32) (x3 : Vec F S2048x64 .f32) (x4 : Vec F S1x1x2048 .f32) (x5 : Vec F S1024x1 .f32) (s : St F) (K : PUnit → sProp 𝕄) :
    iprop(bundle a2 a3 a4 a5 a6 a7 a8 a9 a10 a11 a12 a13 a14 a15 a16 a17 a18 a19 a20 a21 a22 c x2 x3 x4 x5 s ∗ (bundle a2 a3 a4 a5 a6 a7 a8 a9 a10 a11 a12 a13 a14 a15 a16 a17 a18 a19 a20 a21 a22 c x2 x3 x4 x5 (stLast x2 x3 x4 (stReset (stMove s))) -∗ K ⟨⟩)) ⊢ wp frame (wpE (defs₀ (F := F)) Variants.none c none) E (cc1__main_body i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22) K := by
  simp only [cc1__main_body_eq_skeleton]; unfold cc1__main_body_skel
  unfold bundle
  simp only [owns_eq_rep]
  iintro ⟨⟨H2, H3, H4, H5, H6, H7, H8, H9, H10, H11, H12, H13, H14, H15, H16, H17, H18, H19, H20, H21, H22⟩, Hk⟩
  sl_exec!
  sl_step
  iapply Hk
  simp only [stFirst, stScan, stStart, stMove, stCount, stReset, stLast]
  iframe
  isplitl [H8]; rotate_left; isplitl [H9]; rotate_left; isplitl [H10]; rotate_left; isplitl [H11]; rotate_left; isplitl [H12]; rotate_left; isplitl [H13]; rotate_left; isplitl [H14]; rotate_left; isplitl [H15]; rotate_left; isplitl [H16]; rotate_left; isplitl [H17]; rotate_left; isplitl [H18]; rotate_left; isplitl [H19]; rotate_left; isplitl [H20]; rotate_left; isplitl [H21]; rotate_left
  all_goals istop; refine held_at ?_; sl_unfold_words; rw [read_last hz]
  all_goals try simp only [readCov_whole (S := S1024x1) _ hz, readCov_whole (S := S1024x6) _ hz, View.readAt_eq_ld, View.read_rep,
    View.ld_unit_zero (S := S1024x1) hz, View.ld_unit_zero (S := S1024x6) hz, View.ld_unit_zero (S := S1024x64) hz, View.ld_unit_zero (S := S2048x64) hz]
  all_goals first | with_reducible rfl | (unfold chainM; with_reducible rfl) | (unfold chainV; with_reducible rfl) | (unfold stOut; dsimp only; unfold chainM chainV; with_reducible rfl)

set_option maxHeartbeats 16000000 in
/-- The body at a middle grid point of the last pass. -/
theorem body_p10 (c : Dev nD) (E : Set ℕ) (i : grid1.Coords) (h0 : ¬ C1 i) (h1 : ¬ C2 i) (h2 : C5 i) (h3 : ¬ C6 i) (h4 : ¬ C7 i) (h5 : ¬ k1_cond9 i = 1#1)
    (x2 : Vec F S1024x64 .f32) (x3 : Vec F S2048x64 .f32) (x4 : Vec F S1x1x2048 .f32) (x5 : Vec F S1024x1 .f32) (s : St F) (K : PUnit → sProp 𝕄) :
    iprop(bundle a2 a3 a4 a5 a6 a7 a8 a9 a10 a11 a12 a13 a14 a15 a16 a17 a18 a19 a20 a21 a22 c x2 x3 x4 x5 s ∗ (bundle a2 a3 a4 a5 a6 a7 a8 a9 a10 a11 a12 a13 a14 a15 a16 a17 a18 a19 a20 a21 a22 c x2 x3 x4 x5 (stLast x2 x3 x4 s) -∗ K ⟨⟩)) ⊢ wp frame (wpE (defs₀ (F := F)) Variants.none c none) E (cc1__main_body i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22) K := by
  simp only [cc1__main_body_eq_skeleton]; unfold cc1__main_body_skel
  unfold bundle
  simp only [owns_eq_rep]
  iintro ⟨⟨H2, H3, H4, H5, H6, H7, H8, H9, H10, H11, H12, H13, H14, H15, H16, H17, H18, H19, H20, H21, H22⟩, Hk⟩
  sl_exec!
  sl_step
  iapply Hk
  simp only [stFirst, stScan, stStart, stMove, stCount, stReset, stLast]
  iframe
  isplitl [H19]; rotate_left; isplitl [H20]; rotate_left; isplitl [H21]; rotate_left
  all_goals istop; refine held_at ?_; sl_unfold_words; rw [read_last hz]
  all_goals try simp only [readCov_whole (S := S1024x1) _ hz, readCov_whole (S := S1024x6) _ hz, View.readAt_eq_ld, View.read_rep,
    View.ld_unit_zero (S := S1024x1) hz, View.ld_unit_zero (S := S1024x6) hz, View.ld_unit_zero (S := S1024x64) hz, View.ld_unit_zero (S := S2048x64) hz]
  all_goals first | with_reducible rfl | (unfold chainM; with_reducible rfl) | (unfold chainV; with_reducible rfl) | (unfold stOut; dsimp only; unfold chainM chainV; with_reducible rfl)

set_option maxHeartbeats 16000000 in
/-- The body at the last grid point of all. -/
theorem body_p10l (c : Dev nD) (E : Set ℕ) (i : grid1.Coords) (h0 : ¬ C1 i) (h1 : ¬ C2 i) (h2 : C5 i) (h3 : ¬ C6 i) (h4 : ¬ C7 i) (h5 : k1_cond9 i = 1#1)
    (x2 : Vec F S1024x64 .f32) (x3 : Vec F S2048x64 .f32) (x4 : Vec F S1x1x2048 .f32) (x5 : Vec F S1024x1 .f32) (s : St F) (K : PUnit → sProp 𝕄) :
    iprop(bundle a2 a3 a4 a5 a6 a7 a8 a9 a10 a11 a12 a13 a14 a15 a16 a17 a18 a19 a20 a21 a22 c x2 x3 x4 x5 s ∗ (bundle a2 a3 a4 a5 a6 a7 a8 a9 a10 a11 a12 a13 a14 a15 a16 a17 a18 a19 a20 a21 a22 c x2 x3 x4 (stOut (stLast x2 x3 x4 s)) (stLast x2 x3 x4 s) -∗ K ⟨⟩)) ⊢ wp frame (wpE (defs₀ (F := F)) Variants.none c none) E (cc1__main_body i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22) K := by
  simp only [cc1__main_body_eq_skeleton]; unfold cc1__main_body_skel
  unfold bundle
  simp only [owns_eq_rep]
  iintro ⟨⟨H2, H3, H4, H5, H6, H7, H8, H9, H10, H11, H12, H13, H14, H15, H16, H17, H18, H19, H20, H21, H22⟩, Hk⟩
  sl_exec!
  sl_step
  iapply Hk
  simp only [stFirst, stScan, stStart, stMove, stCount, stReset, stLast]
  iframe
  isplitl [H5]; rotate_left; isplitl [H19]; rotate_left; isplitl [H20]; rotate_left; isplitl [H21]; rotate_left
  all_goals istop; refine held_at ?_; sl_unfold_words; rw [read_last hz]
  all_goals try simp only [readCov_whole (S := S1024x1) _ hz, readCov_whole (S := S1024x6) _ hz, View.readAt_eq_ld, View.read_rep,
    View.ld_unit_zero (S := S1024x1) hz, View.ld_unit_zero (S := S1024x6) hz, View.ld_unit_zero (S := S1024x64) hz, View.ld_unit_zero (S := S2048x64) hz]
  all_goals first | with_reducible rfl | (unfold chainM; with_reducible rfl) | (unfold chainV; with_reducible rfl) | (unfold stOut; dsimp only; unfold chainM chainV; with_reducible rfl)

end Cert.Knn

end
-- ==== Proof.Region1.lean ====
/-
  The second kernel call as a whole: what the scratch holds before each grid point (`stAt`), the pipeline's proof data over it,
  and the body obligation, which picks the kind of the grid point from its number and applies that kind's run.
-/
module

public import proofs.«01_k».proof.Proof.Step

@[expose] public section

set_option maxRecDepth 16384

noncomputable section

namespace Cert.Knn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: eleven passes of forty-nine chunks -/

theorem pass_eq : ∀ t : Fin grid1.N, (grid1.coords t 0).val = t.val / 49 := by decide +kernel
theorem chunk_eq : ∀ t : Fin grid1.N, (grid1.coords t 1).val = t.val % 49 := by decide +kernel
theorem C1_iff : ∀ t : Fin grid1.N, C1 (grid1.coords t) ↔ t.val = 0 := by decide +kernel
theorem C2_iff : ∀ t : Fin grid1.N, C2 (grid1.coords t) ↔ 49 ≤ t.val ∧ t.val % 49 = 0 := by decide +kernel
theorem C3_iff : ∀ t : Fin grid1.N, C3 (grid1.coords t) ↔ t.val / 49 = 1 := by decide +kernel
theorem C4_iff : ∀ t : Fin grid1.N, C4 (grid1.coords t) ↔ 2 ≤ t.val / 49 := by decide +kernel
theorem C5_iff : ∀ t : Fin grid1.N, C5 (grid1.coords t) ↔ 490 ≤ t.val := by decide +kernel
theorem C6_iff : ∀ t : Fin grid1.N, C6 (grid1.coords t) ↔ t.val < 49 := by decide +kernel
theorem C7_iff : ∀ t : Fin grid1.N, C7 (grid1.coords t) ↔ 49 ≤ t.val ∧ t.val < 490 := by decide +kernel
theorem cond9_iff : ∀ t : Fin grid1.N, k1_cond9 (grid1.coords t) = 1#1 ↔ t.val = 538 := by decide +kernel

/-! ## What the scratch holds -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One grid point's change of the scratch: pass 0 gathers the extremes, passes 1 to 9 search, pass 10 sums. -/
def stepAt (n : ℕ) (i : grid1.Coords) (x2 : Vec F S1024x64 .f32) (x3 : Vec F S2048x64 .f32) (x4 : Vec F S1x1x2048 .f32) (s : St F) : St F :=
  if n < 49 then stScan i x2 x3 (if n = 0 then stFirst s else s)
  else if n < 490 then stCount x2 x3 (if n % 49 = 0 then (if n / 49 = 1 then stStart s else stMove s) else s)
  else stLast x2 x3 x4 (if n % 49 = 0 then stReset (stMove s) else s)

/-- The scratch before grid point `n`, from `s` before the first. -/
def stAt (c : Dev nD) (s : St F) : ℕ → St F
  | 0 => s
  | n + 1 => if h : n < cfg1.N then stepAt n (grid1.coords ⟨n, h⟩) (iblk1 V c 0 ⟨n, h⟩) (iblk1 V c 1 ⟨n, h⟩) (iblk1 V c 2 ⟨n, h⟩) (stAt c s n) else stAt c s n

theorem stAt_succ (c : Dev nD) (s : St F) (t : Fin cfg1.N) :
    stAt V c s (t.val + 1) = stepAt t.val (grid1.coords t) (iblk1 V c 0 t) (iblk1 V c 1 t) (iblk1 V c 2 t) (stAt V c s t.val) := by
  rw [stAt, dif_pos t.isLt]

/-- The extremes agree. -/
def Agree1 (s s' : St F) : Prop := s.mn = s'.mn ∧ s.mx = s'.mx
/-- The extremes and the search agree. -/
def Agree2 (s s' : St F) : Prop :=
  Agree1 s s' ∧ s.lo = s'.lo ∧ s.hi = s'.hi ∧ s.flo = s'.flo ∧ s.fhi = s'.fhi ∧ s.tc = s'.tc ∧ s.sd = s'.sd ∧ s.cnt = s'.cnt
    ∧ s.clo = s'.clo ∧ s.lov = s'.lov ∧ s.hiv = s'.hiv ∧ s.hav = s'.hav

/-- What the scratch held before the first grid point does not matter to what is set up since: the extremes from the first
    point on, the search from the second pass on, everything from the last pass on. -/
theorem stAt_agree (c : Dev nD) (s s' : St F) : ∀ n, n ≤ 539 →
    (1 ≤ n → Agree1 (stAt V c s n) (stAt V c s' n)) ∧ (50 ≤ n → Agree2 (stAt V c s n) (stAt V c s' n)) ∧ (491 ≤ n → stAt V c s n = stAt V c s' n) := by
  intro n
  induction n with
  | zero => intro _; exact ⟨by omega, by omega, by omega⟩
  | succ n ih =>
    intro hn
    obtain ⟨i1, i2, i3⟩ := ih (by omega)
    have hN : n < cfg1.N := by have : cfg1.N = 539 := N_1; omega
    have e := stAt_succ V c s ⟨n, hN⟩
    have e' := stAt_succ V c s' ⟨n, hN⟩
    rw [e, e']
    generalize hu : stAt V c s n = u at *
    generalize hu' : stAt V c s' n = u' at *
    unfold stepAt
    by_cases h1 : n < 49
    · refine ⟨fun _ => ?_, by omega, by omega⟩
      simp only [h1, if_true]
      by_cases h0 : n = 0
      · simp only [h0, if_true, Agree1, stScan, stFirst, and_self]
      · obtain ⟨a, b⟩ := i1 (by omega)
        simp only [h0, if_false, Agree1, stScan, a, b, and_self]
    · obtain ⟨a, b⟩ := i1 (by omega)
      by_cases h2 : n < 490
      · have key : Agree2 (stCount (iblk1 V c 0 ⟨n, hN⟩) (iblk1 V c 1 ⟨n, hN⟩) (if n % 49 = 0 then (if n / 49 = 1 then stStart u else stMove u) else u))
            (stCount (iblk1 V c 0 ⟨n, hN⟩) (iblk1 V c 1 ⟨n, hN⟩) (if n % 49 = 0 then (if n / 49 = 1 then stStart u' else stMove u') else u')) := by
          by_cases h3 : n % 49 = 0
          · by_cases h4 : n / 49 = 1
            · simp only [h3, h4, if_true, Agree2, Agree1, stCount, stStart, a, b, and_self]
            · obtain ⟨-, q1, q2, q3, q4, q5, q6, q7, q8, q9, q10, q11⟩ := i2 (by omega)
              simp only [h3, h4, if_true, if_false, Agree2, Agree1, stCount, stMove, a, b, q1, q2, q3, q4, q5, q6, q7, q8, q9, q10, q11, and_self]
          · obtain ⟨-, q1, q2, q3, q4, q5, q6, q7, q8, q9, q10, q11⟩ := i2 (by omega)
            simp only [h3, if_false, Agree2, Agree1, stCount, a, b, q1, q2, q3, q4, q5, q6, q7, q8, q9, q10, q11, and_self]
        simp only [h1, if_false, h2, if_true]
        exact ⟨fun _ => key.1, fun _ => key, by omega⟩
      · have key : stLast (iblk1 V c 0 ⟨n, hN⟩) (iblk1 V c 1 ⟨n, hN⟩) (iblk1 V c 2 ⟨n, hN⟩) (if n % 49 = 0 then stReset (stMove u) else u)
            = stLast (iblk1 V c 0 ⟨n, hN⟩) (iblk1 V c 1 ⟨n, hN⟩) (iblk1 V c 2 ⟨n, hN⟩) (if n % 49 = 0 then stReset (stMove u') else u') := by
          by_cases h3 : n % 49 = 0
          · obtain ⟨-, q1, q2, q3, q4, q5, q6, q7, q8, q9, q10, q11⟩ := i2 (by omega)
            simp only [h3, if_true, stLast, stReset, stMove, a, b, q1, q2, q3, q4, q5, q6, q7, q8, q9, q10, q11]
          · rw [i3 (by omega)]
        simp only [h1, if_false, h2]
        rw [key]
        exact ⟨fun _ => ⟨rfl, rfl⟩, fun _ => ⟨⟨rfl, rfl⟩, rfl, rfl, rfl, rfl, rfl, rfl, rfl, rfl, rfl, rfl, rfl⟩, fun _ => rfl⟩

/-- Some scratch contents. -/
def stJunk : St F := ⟨k1_pay119, k1_pay119, k1_pay119, k1_pay119, k1_pay119, k1_pay119, k1_pay119, k1_pay119, k1_pay119, k1_pay119, k1_pay119, k1_pay119, k1_pay119, k1_pay119, k1_pay119, k1_pay121, k1_pay121⟩

/-! ## The pipeline's proof data -/

/-- The first call's staging buffers, held at anything. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f))
/-- The scratch buffers held at the state `s`. -/
abbrev scratch (c : Dev nD) (s : St F) : sProp 𝕄 :=
  iprop(owns (c : Thread nD τ) (Memref.whole cc1_scratch0) fullShare s.mn ∗ owns (c : Thread nD τ) (Memref.whole cc1_scratch1) fullShare s.mx ∗ owns (c : Thread nD τ) (Memref.whole cc1_scratch2) fullShare s.lo ∗ owns (c : Thread nD τ) (Memref.whole cc1_scratch3) fullShare s.hi ∗ owns (c : Thread nD τ) (Memref.whole cc1_scratch4) fullShare s.flo ∗ owns (c : Thread nD τ) (Memref.whole cc1_scratch5) fullShare s.fhi ∗ owns (c : Thread nD τ) (Memref.whole cc1_scratch6) fullShare s.tc ∗ owns (c : Thread nD τ) (Memref.whole cc1_scratch7) fullShare s.sd ∗ owns (c : Thread nD τ) (Memref.whole cc1_scratch8) fullShare s.cnt ∗ owns (c : Thread nD τ) (Memref.whole cc1_scratch9) fullShare s.clo ∗ owns (c : Thread nD τ) (Memref.whole cc1_scratch10) fullShare s.lov ∗ owns (c : Thread nD τ) (Memref.whole cc1_scratch11) fullShare s.hiv ∗ owns (c : Thread nD τ) (Memref.whole cc1_scratch12) fullShare s.hav ∗ owns (c : Thread nD τ) (Memref.whole cc1_scratch13) fullShare s.sw ∗ owns (c : Thread nD τ) (Memref.whole cc1_scratch14) fullShare s.swv ∗ owns (c : Thread nD τ) (Memref.whole cc1_scratch15) fullShare s.mch ∗ owns (c : Thread nD τ) (Memref.whole cc1_scratch16) fullShare s.vch)
/-- The invariant before point `n`: the scratch at `stAt`, from some contents before the first point. -/
def Φ1 (c : Dev nD) (n : ℕ) : sProp 𝕄 := iprop(others c ∗ ∃ s, scratch c (stAt V c s n))

/-- The proof data of the call, entered from the arrays `V`: the inputs' buffers keep their blocks, the output's is written
    at the last point, from the scratch there. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => stOut (stAt V c stJunk 539)
  Φ t := Φ1 V c t.val
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = stOut (stAt V c stJunk 539) := by dsimp only [dat1]

/-- An input's buffer holds its block whenever the body runs, just fetched or kept from the point before. -/
theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨fun d => ?_, fun d => ?_, fun d => ?_⟩
  · exact ((dat1 V c).before_in_eq_fetched 0 rfl (fun _ => rfl) (fun _ _ _ => rfl) (fun t => by rw [after1_0]; unfold Dat.blockOf iblk1; rw [A1_eq]; try rfl) t d).trans
      (by unfold Dat.fetched Dat.blockOf iblk1; rw [A1_eq]; try rfl)
  · exact ((dat1 V c).before_in_eq_fetched 1 rfl (fun _ => rfl) (fun _ _ _ => rfl) (fun t => by rw [after1_1]; unfold Dat.blockOf iblk1; rw [A1_eq]; try rfl) t d).trans
      (by unfold Dat.fetched Dat.blockOf iblk1; rw [A1_eq]; try rfl)
  · exact ((dat1 V c).before_in_eq_fetched 2 rfl (fun _ => rfl) (fun _ _ _ => rfl) (fun t => by rw [after1_2]; unfold Dat.blockOf iblk1; rw [A1_eq]; try rfl) t d).trans
      (by unfold Dat.fetched Dat.blockOf iblk1; rw [A1_eq]; try rfl)

/-! ## The body obligation -/

/-- What the body writes into the output's buffer at point `t`: at the last point the result, else nothing. -/
def outAt (c : Dev nD) (t : Fin cfg1.N) (x5 : Vec F S1024x1 .f32) (s : St F) : Vec F S1024x1 .f32 :=
  if t.val = 538 then stOut (stAt V c s 539) else x5

/-- The body at any point, from the windows' blocks and the scratch before it to the scratch after it. -/
theorem body_at (c : Dev nD) (t : Fin cfg1.N) (x5 : Vec F S1024x1 .f32) (s : St F) (K : PUnit → sProp 𝕄) :
    iprop(bundle (st1_0 t) (st1_1 t) (st1_2 t) (st1_3 t) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) (Memref.whole cc1_scratch11) (Memref.whole cc1_scratch12) (Memref.whole cc1_scratch13) (Memref.whole cc1_scratch14) (Memref.whole cc1_scratch15) (Memref.whole cc1_scratch16) c (iblk1 V c 0 t) (iblk1 V c 1 t) (iblk1 V c 2 t) x5 (stAt V c s t.val)
        ∗ (bundle (st1_0 t) (st1_1 t) (st1_2 t) (st1_3 t) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) (Memref.whole cc1_scratch11) (Memref.whole cc1_scratch12) (Memref.whole cc1_scratch13) (Memref.whole cc1_scratch14) (Memref.whole cc1_scratch15) (Memref.whole cc1_scratch16) c (iblk1 V c 0 t) (iblk1 V c 1 t) (iblk1 V c 2 t) (outAt V c t x5 s) (stAt V c s (t.val + 1)) -∗ K ⟨⟩))
      ⊢ wp frame (wpE (defs₀ (F := F)) Variants.none c none) Set.univ (bodyAt1 t) K := by
  have ht : t.val < 539 := by have := t.isLt; have e : cfg1.N = 539 := N_1; omega
  have q1 := C1_iff t
  have q2 := C2_iff t
  have q3 := C3_iff t
  have q4 := C4_iff t
  have q5 := C5_iff t
  have q6 := C6_iff t
  have q7 := C7_iff t
  have q9 := cond9_iff t
  have e5 (h : t.val ≠ 538) : outAt V c t x5 s = x5 := if_neg h
  rw [stAt_succ]
  unfold stepAt
  by_cases h1 : t.val < 49
  · rw [e5 (by omega), if_pos h1]
    by_cases h0 : t.val = 0
    · rw [if_pos h0]
      exact body_p0j0 _ _ _ _ _ _ _ _ _ _ _ _ _ _ _ _ _ _ _ _ _ _ _ _ _ _ _ _ _ _ _ _ _ _ _ _ _ _ _ _ _ _ c Set.univ _ (by rw [q1]; omega) (by rw [q2]; omega) (by rw [q6]; omega) (by rw [q7]; omega) (by rw [q5]; omega) (by rw [q9]; omega) _ _ _ _ _ K
    · rw [if_neg h0]
      exact body_p0 _ _ _ _ _ _ _ _ _ _ _ _ _ _ _ _ _ _ _ _ _ _ _ _ _ _ _ _ _ _ _ _ _ _ _ _ _ _ _ _ _ _ c Set.univ _ (by rw [q1]; omega) (by rw [q2]; omega) (by rw [q6]; omega) (by rw [q7]; omega) (by rw [q5]; omega) (by rw [q9]; omega) _ _ _ _ _ K
  · rw [if_neg h1]
    by_cases h2 : t.val < 490
    · rw [e5 (by omega), if_pos h2]
      by_cases h3 : t.val % 49 = 0
      · rw [if_pos h3]
        by_cases h4 : t.val / 49 = 1
        · rw [if_pos h4]
          exact body_p1j0 _ _ _ _ _ _ _ _ _ _ _ _ _ _ _ _ _ _ _ _ _ _ _ _ _ _ _ _ _ _ _ _ _ _ _ _ _ _ _ _ _ _ c Set.univ _ (by rw [q1]; omega) (by rw [q2]; omega) (by rw [q3]; omega) (by rw [q4]; omega) (by rw [q5]; omega) (by rw [q6]; omega) (by rw [q7]; omega) (by rw [q9]; omega) _ _ _ _ _ K
        · rw [if_neg h4]
          exact body_pj0 _ _ _ _ _ _ _ _ _ _ _ _ _ _ _ _ _ _ _ _ _ _ _ _ _ _ _ _ _ _ _ _ _ _ _ _ _ _ _ _ _ _ c Set.univ _ (by rw [q1]; omega) (by rw [q2]; omega) (by rw [q3]; omega) (by rw [q4]; omega) (by rw [q5]; omega) (by rw [q6]; omega) (by rw [q7]; omega) (by rw [q9]; omega) _ _ _ _ _ K
      · rw [if_neg h3]
        exact body_pj _ _ _ _ _ _ _ _ _ _ _ _ _ _ _ _ _ _ _ _ _ _ _ _ _ _ _ _ _ _ _ _ _ _ _ _ _ _ _ _ _ _ c Set.univ _ (by rw [q1]; omega) (by rw [q2]; omega) (by rw [q5]; omega) (by rw [q6]; omega) (by rw [q7]; omega) (by rw [q9]; omega) _ _ _ _ _ K
    · rw [if_neg h2]
      by_cases h3 : t.val % 49 = 0
      · rw [e5 (by omega), if_pos h3]
        exact body_p10j0 _ _ _ _ _ _ _ _ _ _ _ _ _ _ _ _ _ _ _ _ _ _ _ _ _ _ _ _ _ _ _ _ _ _ _ _ _ _ _ _ _ _ c Set.univ _ (by rw [q1]; omega) (by rw [q2]; omega) (by rw [q3]; omega) (by rw [q4]; omega) (by rw [q5]; omega) (by rw [q6]; omega) (by rw [q7]; omega) (by rw [q9]; omega) _ _ _ _ _ K
      · rw [if_neg h3]
        by_cases h9 : t.val = 538
        · have e : outAt V c t x5 s = stOut (stLast (iblk1 V c 0 t) (iblk1 V c 1 t) (iblk1 V c 2 t) (stAt V c s t.val)) := by
            have hs := stAt_succ V c s t
            unfold outAt stepAt at *
            rw [if_neg h1, if_neg h2, if_neg h3] at hs
            rw [if_pos h9, ← hs, h9]
          rw [e]
          exact body_p10l _ _ _ _ _ _ _ _ _ _ _ _ _ _ _ _ _ _ _ _ _ _ _ _ _ _ _ _ _ _ _ _ _ _ _ _ _ _ _ _ _ _ c Set.univ _ (by rw [q1]; omega) (by rw [q2]; omega) (by rw [q5]; omega) (by rw [q6]; omega) (by rw [q7]; omega) (by rw [q9]; omega) _ _ _ _ _ K
        · rw [e5 h9]
          exact body_p10 _ _ _ _ _ _ _ _ _ _ _ _ _ _ _ _ _ _ _ _ _ _ _ _ _ _ _ _ _ _ _ _ _ _ _ _ _ _ _ _ _ _ c Set.univ _ (by rw [q1]; omega) (by rw [q2]; omega) (by rw [q5]; omega) (by rw [q6]; omega) (by rw [q7]; omega) (by rw [q9]; omega) _ _ _ _ _ K

/-- The body table's row at point `t`'s slots is the body. -/
theorem defs₀_row1 (t : Fin cfg1.N) : defs₀ (F := F) .tc cfg1.body (cfg1.bodyArgs t (cfg1.slots t)) = bodyAt1 t := by
  unfold defs₀; rw [Defs.onTc_tc]

/-- The output's window is idle at every point but the last, and written back there alone. -/
theorem idle_live (t : Fin cfg1.N) (h : t.val ≠ 538) : idle1 3 (grid1.coords t) = true ∧ (win1 3).flush t = false := by
  have ht : t.val < 539 := by have := t.isLt; have e : cfg1.N = 539 := N_1; omega
  refine ⟨?_, ?_⟩
  · show (!(k1_cond9 (grid1.coords t) == 1#1)) = true
    have := cond9_iff t
    simp only [Bool.not_eq_true', beq_eq_false_iff_ne, ne_eq, this]
    exact h
  · rw [← Bool.not_eq_true, flush1_3]; omega
theorem idle_last (t : Fin cfg1.N) (h : t.val = 538) : idle1 3 (grid1.coords t) = false := by
  show (!(k1_cond9 (grid1.coords t) == 1#1)) = false
  have := cond9_iff t
  simp only [Bool.not_eq_false', beq_iff_eq, this]
  exact h

set_option maxHeartbeats 4000000 in
/-- The library's body obligation, at every point. -/
theorem body_obligation1 (c : Dev nD) : BodyObligation (dat1 V c) (defs₀ (F := F)) Variants.none () Set.univ := fun t => by
  obtain ⟨b0, b1, b2⟩ := before1_in V c t
  have ht : t.val < 539 := by have := t.isLt; have e : cfg1.N = 539 := N_1; omega
  rw [bigSep_W1, bigSep_W1, defs₀_row1]
  simp only [b0, b1, b2, after1_0, after1_1, after1_2, after1_3]
  rw [show (dat1 V c).Φ t.castSucc = Φ1 V c t.val from rfl, show (dat1 V c).Φ t.succ = Φ1 V c (t.val + 1) from rfl,
    show (dat1 V c).owesAt () t.succ = (dat1 V c).owesAt () t.castSucc from rfl]
  iintro ⟨HΦ, Howes, ⟨%d0, H0⟩, ⟨%d1, H1⟩, ⟨%d2, H2⟩, ⟨%d3, H3⟩⟩
  unfold Φ1
  icases HΦ with ⟨Hr, ⟨%s, HS⟩⟩
  unfold scratch
  icases HS with ⟨S0, S1, S2, S3, S4, S5, S6, S7, S8, S9, S10, S11, S12, S13, S14, S15, S16⟩
  iapply (body_at V c t ((dat1 V c).before 3 t d3) s _)
  unfold bundle
  isplitl [H0 H1 H2 H3 S0 S1 S2 S3 S4 S5 S6 S7 S8 S9 S10 S11 S12 S13 S14 S15 S16]
  · iframe
  iintro ⟨H0, H1, H2, H3, S0, S1, S2, S3, S4, S5, S6, S7, S8, S9, S10, S11, S12, S13, S14, S15, S16⟩
  isplitl [Hr S0 S1 S2 S3 S4 S5 S6 S7 S8 S9 S10 S11 S12 S13 S14 S15 S16]
  · isplitl [Hr]; · iexact Hr
    iexists s
    iframe
  isplitl [Howes]; · iexact Howes
  isplitl [H0]; · iexact H0
  isplitl [H1]; · iexact H1
  isplitl [H2]; · iexact H2
  by_cases h9 : t.val = 538
  · rw [idle_last t h9]
    have e : outAt V c t ((dat1 V c).before 3 t d3) s = stOut (stAt V c stJunk 539) := by
      unfold outAt
      rw [if_pos h9, ((stAt_agree V c s stJunk 539 le_rfl).2.2 (by omega))]
    rw [e]
    iexact H3
  · obtain ⟨hi, hf⟩ := idle_live t h9
    rw [hi, hf]
    have e : outAt V c t ((dat1 V c).before 3 t d3) s = (dat1 V c).before 3 t d3 := if_neg h9
    rw [e]
    iexists d3
    iexact H3

end Cert.Knn

end
-- ==== Proof.Region0.lean ====
/-
  The first kernel call: its one grid point computes the hidden layer and the class probabilities from whole arrays.
-/
module

public import proofs.«01_k».proof.Proof.Region1

@[expose] public section

set_option maxRecDepth 16384

noncomputable section

namespace Cert.Knn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → ℕ) = fun _ => 0 := by funext i; fin_cases i; rfl

set_option maxHeartbeats 4000000 in
/-- The body on whole buffers: from the inputs it leaves the hidden layer and the probabilities in the two outputs. -/
theorem body_head (c : Dev nD) (E : Set ℕ) (a0 : Memref sig .tc .vmem S1024x128 .f32) (w0 : a0.IsWhole) (a1 : Memref sig .tc .vmem S64x128 .f32) (w1 : a1.IsWhole) (a2 : Memref sig .tc .vmem S64 .f32) (w2 : a2.IsWhole) (a3 : Memref sig .tc .vmem S18x64 .f32) (w3 : a3.IsWhole) (a4 : Memref sig .tc .vmem S18 .f32) (w4 : a4.IsWhole) (a5 : Memref sig .tc .vmem S1024x64 .f32) (w5 : a5.IsWhole) (a6 : Memref sig .tc .vmem S1024x18 .f32) (w6 : a6.IsWhole)
    (x0 : Vec F S1024x128 .f32) (x1 : Vec F S64x128 .f32) (x2 : Vec F S64 .f32) (x3 : Vec F S18x64 .f32) (x4 : Vec F S18 .f32)
    (x5 : Vec F S1024x64 .f32) (x6 : Vec F S1024x18 .f32) (K : PUnit → sProp 𝕄) :
    iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6) ∗ ((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k0_pay1 x0 x1 x2) ∗ owns (c : Thread nD τ) a6 fullShare (k0_pay2 x0 x1 x2 x3 x4)) -∗ K ⟨⟩))
      ⊢ wp frame (wpE (defs₀ (F := F)) Variants.none c none) E (cc0__head_body a0 w0 a1 w1 a2 w2 a3 w3 a4 w4 a5 w5 a6 w6) K := by
  simp only [cc0__head_body_eq_skeleton]; unfold cc0__head_body_skel
  simp only [owns_eq_rep]
  iintro ⟨⟨H0, H1, H2, H3, H4, H5, H6⟩, Hk⟩
  sl_exec!
  sl_step
  iapply Hk
  iframe
  isplitl [H5]
  all_goals istop; refine held_at ?_; sl_unfold_words
  · rw [read_last (S := S1024x64) hz]
    simp only [View.readAt_eq_ld, View.read_rep, View.ld_unit_zero (S := S1024x128) hz, View.ld_unit_zero (S := S64x128) hz, View.ld_unit_zero (S := S64) hz1]
  · rw [read_last (S := S1024x18) hz]
    simp only [View.readAt_eq_ld, View.read_rep, View.ld_unit_zero (S := S1024x128) hz, View.ld_unit_zero (S := S64x128) hz, View.ld_unit_zero (S := S64) hz1,
      View.ld_unit_zero (S := S18x64) hz, View.ld_unit_zero (S := S18) hz1]

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the call, entered from the arrays `V`: the inputs keep their blocks, the outputs get their values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay1 (iblk0 V c 0 t) (iblk0 V c 1 t) (iblk0 V c 2 t)
    | ⟨6, _⟩ => k0_pay2 (iblk0 V c 0 t) (iblk0 V c 1 t) (iblk0 V c 2 t) (iblk0 V c 3 t) (iblk0 V c 4 t)
  Φ _ := Pipeline.scopedRest spec0 c
  q _ := fullShare
  owed _ := 0

theorem A0_eq (c : Dev nD) (w : Fin cfg0.W) : (dat0 V c).A w = V c (Pipeline.arrRef spec0 w) := by dsimp only [dat0]
theorem after0_5 (c : Dev nD) (t : Fin cfg0.N) : (dat0 V c).after 5 t = k0_pay1 (iblk0 V c 0 t) (iblk0 V c 1 t) (iblk0 V c 2 t) := by dsimp only [dat0]
theorem after0_6 (c : Dev nD) (t : Fin cfg0.N) : (dat0 V c).after 6 t = k0_pay2 (iblk0 V c 0 t) (iblk0 V c 1 t) (iblk0 V c 2 t) (iblk0 V c 3 t) (iblk0 V c 4 t) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0_eq]; try rfl) t d).trans
    (by unfold Dat.fetched Dat.blockOf iblk0; rw [A0_eq]; try rfl)

theorem defs₀_row0 (t : Fin cfg0.N) : defs₀ (F := F) .tc cfg0.body (cfg0.bodyArgs t (cfg0.slots t)) = bodyAt0 t := by
  unfold defs₀; rw [Defs.onTc_tc]

set_option maxHeartbeats 4000000 in
/-- The library's body obligation, at the one point. -/
theorem body_obligation0 (c : Dev nD) : BodyObligation (dat0 V c) (defs₀ (F := F)) Variants.none () Set.univ := fun t => by
  rw [bigSep_W0, bigSep_W0, defs₀_row0]
  simp only [before0_0, before0_1, before0_2, before0_3, before0_4, after0_0, after0_1, after0_2, after0_3, after0_4, after0_5, after0_6]
  rw [show (dat0 V c).Φ t.succ = (dat0 V c).Φ t.castSucc from rfl,
    show (dat0 V c).owesAt () t.succ = (dat0 V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  iapply (body_head c Set.univ _ _ _ _ _ _ _ _ _ _ _ _ _ _ (iblk0 V c 0 t) (iblk0 V c 1 t) (iblk0 V c 2 t) (iblk0 V c 3 t) (iblk0 V c 4 t) _ _ _)
  isplitl [H0 H1 H2 H3 H4 H5 H6]
  · iframe
  iintro ⟨H0, H1, H2, H3, H4, H5, H6⟩
  isplitl [HΦ]; · iexact HΦ
  isplitl [Howes]; · iexact Howes
  iframe

end Cert.Knn

end
-- ==== Proof.Run.lean ====
/-
  The whole program: the two kernel calls and the host operations between them, as one run. Every weakly fair execution ends
  with the arguments unchanged and the three results at what the two calls' proof data say.
-/
module

public import proofs.«01_k».proof.Proof.Region0
public import proofs.«01_k».proof.Proof.Gen.KernelIdeal.Regions
public import Idealize.ShloMosaic.Lib.Pipeline.RegionArraysS

@[expose] public section

set_option maxRecDepth 16384

noncomputable section

namespace Cert.Knn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers a valuation of every core gives. -/
abbrev bufs (W : Dev nD → Valuation τ sig (Elt F)) (c : Dev nD) (b : Ref sig .tc) : Buf (Elt F) ((c : Thread nD τ).loc b) := W c (Proc.devRef .tc b)

/-- The first call's proof data, from the launch. -/
def first (c : Dev nD) : Dat τ (Elt F) Unit ℕ (UR sig nD τ) ℕ cfg0 c := dat0 (bufs fun c b => m (c, b)) c

/-- What the first call leaves, read at any buffer. -/
def outs₁ : Outs (F := F) := fun _ r c => Pipeline.afterRegion (first m c) (V0 m c) (Proc.devRef .tc r)

/-- The second call's proof data, from the buffers after the host operations. -/
def second (c : Dev nD) : Dat τ (Elt F) Unit ℕ (UR sig nD τ) ℕ cfg1 c := dat1 (bufs (V6 m (outs₁ m))) c

/-- What the two calls leave. -/
def outs : Outs (F := F) := fun k r c =>
  match k with
  | 1 => outs₁ m 1 r c
  | _ => Pipeline.afterRegion (second m c) (V6 m (outs₁ m) c) (Proc.devRef .tc r)

theorem V1_outs (c : Dev nD) : V1 m (outs m) c = V1 m (outs₁ m) c := rfl
theorem V6_outs (c : Dev nD) : V6 m (outs m) c = V6 m (outs₁ m) c := by
  unfold V6 V5 V4 V3 V2; rw [V1_outs]

/-- The two calls' proof data. -/
def pdats : (p : Fin 2) → (c : Dev nD) → Dat τ (Elt F) Unit ℕ (UR sig nD τ) ℕ (cfgs p) c
  | ⟨0, _⟩ => first m
  | ⟨1, _⟩ => second m

/-- The levels: one, at every core's own semaphores. -/
def Lev : GSem nD τ sig → Finset Unit := fun g => if g.1.2 = .tc then Finset.univ else ∅

theorem levelCut (p : Fin 2) : Pipeline.LevelCut (pcfgs (F := F)) adm () Lev (fun _ _ => (0 : ℕ)) p (fun _ => 0) fun _ => 0 where
  hι c w s := by unfold Lev; rw [if_pos rfl]; exact Finset.mem_univ _
  hιb _ _ _ := le_rfl
  hD _ _ _ h := absurd h (Nat.lt_irrefl _)

/-- A held set of references at two valuations that agree on the core's references. -/
theorem held_agree (c : Dev nD) {W W' : Valuation τ sig (Elt F)} (h : ∀ r : Ref sig .tc, W (Proc.devRef .tc r) = W' (Proc.devRef .tc r)) :
    (StableHlo.held (c : Thread nD τ) (Pipeline.ucRefs τ sig) W : sProp 𝕄) = StableHlo.held (c : Thread nD τ) (Pipeline.ucRefs τ sig) W' := by
  refine StableHlo.held_congr (c : Thread nD τ) fun b hb => ?_
  obtain ⟨r, -, rfl⟩ := Finset.mem_map.mp (Finset.mem_filter.mp hb).1
  exact h r

theorem arrs0_sub : Pipeline.arrRefs (pcfgs (F := F) 0).spec ⊆ Pipeline.ucRefs τ sig := Pipeline.arrRefs_sub_ucRefs _ fun w => by fin_cases w <;> rfl
theorem arrs1_sub : Pipeline.arrRefs (pcfgs (F := F) 1).spec ⊆ Pipeline.ucRefs τ sig := Pipeline.arrRefs_sub_ucRefs _ fun w => by fin_cases w <;> rfl

/-- The whole scratch held at anything is the invariant before the first point. -/
theorem enter1 (V : (c : Dev nD) → (b : Ref sig .tc) → Buf (Elt F) ((c : Thread nD τ).loc b)) (c : Dev nD) :
    (Pipeline.scopedRest spec1 c : sProp 𝕄) ⊢ Φ1 V c 0 := by
  rw [scopedRest1_eq]
  unfold Φ1 others scratch
  simp only [owns_whole]
  iintro ⟨G0, G1, G2, G3, G4, G5, G6, ⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f16, S16⟩⟩
  isplitl [G0 G1 G2 G3 G4 G5 G6]
  · iframe
  iexists (⟨f0, f1, f2, f3, f4, f5, f6, f7, f8, f9, f10, f11, f12, f13, f14, f15, f16⟩ : St F)
  unfold stAt
  iframe

/-- The invariant after the last point gives the whole scratch back, held at something. -/
theorem leave1 (V : (c : Dev nD) → (b : Ref sig .tc) → Buf (Elt F) ((c : Thread nD τ).loc b)) (c : Dev nD) (n : ℕ) :
    (Φ1 V c n : sProp 𝕄) ⊢ Pipeline.scopedRest spec1 c := by
  rw [scopedRest1_eq]
  unfold Φ1 others scratch
  simp only [owns_whole]
  iintro ⟨⟨G0, G1, G2, G3, G4, G5, G6⟩, ⟨%s, S0, S1, S2, S3, S4, S5, S6, S7, S8, S9, S10, S11, S12, S13, S14, S15, S16⟩⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  isplitl [S13]; · iexists _; iexact S13
  isplitl [S14]; · iexists _; iexact S14
  isplitl [S15]; · iexists _; iexact S15
  iexists _; iexact S16

set_option backward.isDefEq.respectTransparency.types false in
/-- The first call as a segment of the program. -/
def seg0 : Pipeline.RegionSeg (pcfgs (F := F)) adm (pdats m) () defs₀ Variants.none Lev (fun _ _ => (0 : ℕ)) 0 :=
  Pipeline.RegionSeg.ofHeldIn (pcfgs (F := F)) adm (pdats m) () defs₀ Variants.none Lev (fun _ _ => (0 : ℕ)) 0 (fun _ => 0)
    (Pipeline.ucRefs τ sig) (fun _ => BI.emp) (fun _ => BI.emp) launch0.toP rfl
    (fun c => (body_obligation0 _ c).loose) (fun _ _ => rfl) (fun _ => rfl) (fun c => (first m c).share_full fun _ => rfl)
    (fun c => by rw [show (pdats m 0 c).Φ 0 = Pipeline.scopedRest spec0 c from rfl]; iintro ⟨H, -⟩; iexact H)
    (fun c => by rw [show (pdats m 0 c).Φ (Fin.last _) = Pipeline.scopedRest spec0 c from rfl]; iintro H; isplitl [H]; (· iexact H); iempintro)
    (fun _ => 0) (levelCut 0) (fun _ => BI.emp) (V0 m) (fun _ _ => rfl)

set_option backward.isDefEq.respectTransparency.types false in
/-- The second call as a segment of the program. -/
def seg6 : Pipeline.RegionSeg (pcfgs (F := F)) adm (pdats m) () defs₀ Variants.none Lev (fun _ _ => (0 : ℕ)) 1 :=
  Pipeline.RegionSeg.ofHeldIn (pcfgs (F := F)) adm (pdats m) () defs₀ Variants.none Lev (fun _ _ => (0 : ℕ)) 1 (fun _ => 0)
    (Pipeline.ucRefs τ sig) (fun _ => BI.emp) (fun _ => BI.emp) launch1.toP rfl
    (fun c => (body_obligation1 _ c).loose) (fun _ _ => rfl) (fun _ => rfl) (fun c => (second m c).share_full fun _ => rfl)
    (fun c => by
      rw [show (pdats m 1 c).Φ 0 = Φ1 (bufs (V6 m (outs₁ m))) c 0 from rfl]; iintro ⟨H, -⟩
      iapply (enter1 _ c); iexact H)
    (fun c => by
      rw [show (pdats m 1 c).Φ (Fin.last _) = Φ1 (bufs (V6 m (outs₁ m))) c _ from rfl]; iintro H
      isplitl [H]; (· iapply (leave1 _ c _); iexact H); iempintro)
    (fun _ => 0) (levelCut 1) (fun _ => BI.emp) (V6 m (outs₁ m)) (fun _ _ => rfl)

/-- What rides along beside the buffers: the core owes nothing. -/
abbrev rest (c : Dev nD) : sProp 𝕄 := iprop(∃ W, owes (c : Thread nD τ) (0 : CellTallies nD τ sig Unit) W)

theorem after0 (c : Dev nD) (r : Ref sig .tc) : Pipeline.afterRegion (first m c) (V0 m c) (Proc.devRef .tc r) = V1 m (outs m) c (Proc.devRef .tc r) := by
  by_cases h1 : r = main_v0_1
  · subst h1
    have e : ∀ W : Valuation τ sig (Elt F), ∀ v, Function.update W (Proc.devRef .tc main_v0_1) v (Proc.devRef .tc main_v0_1) = v := fun W v => Function.update_self _ _ _
    exact (e _ _).symm
  by_cases h0 : r = main_v0_0
  · subst h0
    have e : ∀ W : Valuation τ sig (Elt F), ∀ v w, Function.update (Function.update W (Proc.devRef .tc main_v0_0) v) (Proc.devRef .tc main_v0_1) w (Proc.devRef .tc main_v0_0) = v := fun W v w =>
      (Function.update_of_ne (StableHlo.devRef_ne_of_ne (show main_v0_0 ≠ main_v0_1 by decide)) _ _).trans (Function.update_self _ _ _)
    exact (e _ _ _).symm
  refine (Pipeline.afterRegion_keeps (first m c) (V0 m c) launch0.win.arr_inj (fun _ => rfl) r fun w hw => ?_).trans
    (V1_of m (outs m) c r (by simp [h0, h1])).symm
  revert hw
  fin_cases w <;> first | (intro _; rfl) | (intro hw; exact absurd hw.symm h0) | (intro hw; exact absurd hw.symm h1)

theorem after6 (c : Dev nD) (r : Ref sig .tc) : Pipeline.afterRegion (second m c) (V6 m (outs₁ m) c) (Proc.devRef .tc r) = V7 m (outs m) c (Proc.devRef .tc r) := by
  by_cases h0 : r = main_v5
  · subst h0
    have e : ∀ W : Valuation τ sig (Elt F), ∀ v, Function.update W (Proc.devRef .tc main_v5) v (Proc.devRef .tc main_v5) = v := fun W v => Function.update_self _ _ _
    exact (e _ _).symm
  refine (Pipeline.afterRegion_keeps (second m c) (V6 m (outs₁ m) c) launch1.win.arr_inj (fun _ => rfl) r fun w hw => ?_).trans
    ((V7_of m (outs m) c r (by simp [h0])).trans (by rw [V6_outs])).symm
  revert hw
  fin_cases w <;> first | (intro _; rfl) | (intro hw; exact absurd hw.symm h0)

set_option backward.isDefEq.respectTransparency.types false in
theorem pre0 (c : Dev nD) : iprop(StableHlo.held (c : Thread nD τ) (Pipeline.ucRefs τ sig) (V0 m c) ∗ rest c) ⊢ (seg0 m).pre c := by
  unfold seg0
  refine (show iprop(StableHlo.held (c : Thread nD τ) (Pipeline.ucRefs τ sig) (V0 m c) ∗ rest c)
    ⊢ iprop(StableHlo.held (c : Thread nD τ) (Pipeline.ucRefs τ sig) (V0 m c) ∗ (rest c ∗ BI.emp ∗ BI.emp)) from ?_).trans (Pipeline.RegionSeg.ofHeldIn_pre (pcs := pcfgs (F := F)) (a := adm) (pdats := pdats m) (ι := ()) (D := fun _ => 0) (X := fun _ => BI.emp) (Y := fun _ => BI.emp) (R := fun _ => BI.emp) (W := (V0 m)) arrs0_sub c)
  iintro ⟨H, HO⟩
  isplitl [H]; · iexact H
  isplitl [HO]; · iexact HO
  isplitr <;> iempintro

set_option backward.isDefEq.respectTransparency.types false in
theorem post0 (c : Dev nD) : (seg0 m).post c ⊢ iprop(StableHlo.held (c : Thread nD τ) (Pipeline.ucRefs τ sig) (V1 m (outs m) c) ∗ rest c) := by
  unfold seg0
  refine (Pipeline.RegionSeg.ofHeldIn_post arrs0_sub c).trans ?_
  rw [← held_agree c (after0 m c)]
  iintro ⟨H, HO, -⟩
  isplitl [H]; · iexact H
  iexact HO

set_option backward.isDefEq.respectTransparency.types false in
theorem pre6 (c : Dev nD) : iprop(StableHlo.held (c : Thread nD τ) (Pipeline.ucRefs τ sig) (V6 m (outs m) c) ∗ rest c) ⊢ (seg6 m).pre c := by
  rw [V6_outs]
  unfold seg6
  refine (show iprop(StableHlo.held (c : Thread nD τ) (Pipeline.ucRefs τ sig) (V6 m (outs₁ m) c) ∗ rest c)
    ⊢ iprop(StableHlo.held (c : Thread nD τ) (Pipeline.ucRefs τ sig) (V6 m (outs₁ m) c) ∗ (rest c ∗ BI.emp ∗ BI.emp)) from ?_).trans (Pipeline.RegionSeg.ofHeldIn_pre (pcs := pcfgs (F := F)) (a := adm) (pdats := pdats m) (ι := ()) (D := fun _ => 0) (X := fun _ => BI.emp) (Y := fun _ => BI.emp) (R := fun _ => BI.emp) (W := (V6 m (outs₁ m))) arrs1_sub c)
  iintro ⟨H, HO⟩
  isplitl [H]; · iexact H
  isplitl [HO]; · iexact HO
  isplitr <;> iempintro

set_option backward.isDefEq.respectTransparency.types false in
theorem post6 (c : Dev nD) : (seg6 m).post c ⊢ iprop(StableHlo.held (c : Thread nD τ) (Pipeline.ucRefs τ sig) (V7 m (outs m) c) ∗ rest c) := by
  unfold seg6
  refine (Pipeline.RegionSeg.ofHeldIn_post arrs1_sub c).trans ?_
  rw [← held_agree c (after6 m c)]
  iintro ⟨H, HO, -⟩
  isplitl [H]; · iexact H
  iexact HO

/-- The launch makes what rides along. -/
theorem launch_rest : iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts Lev (fun _ _ => (0 : ℕ)))
      ⊢ (|={Set.univ}=> bigSep Finset.univ (fun c : Dev nD => rest c) : sProp 𝕄) := by
  have one (c : Dev nD) : iprop(unscopedSems0 c ∗ owes (c : Thread nD τ) (0 : CellTallies nD τ sig Unit) ∅ ∗ Pipeline.launchCred (fun _ => 0) c ∗ prngReg c (ρ c) ∗ BI.emp)
      ⊢ (rest c : sProp 𝕄) := by
    iintro ⟨-, HO, -⟩
    iexists _
    iexact HO
  have key : (bigSep Finset.univ fun c : Dev nD => iprop(unscopedSems0 c ∗ owes (c : Thread nD τ) (0 : CellTallies nD τ sig Unit) ∅ ∗ Pipeline.launchCred (fun _ => 0) c ∗ prngReg c (ρ c) ∗ BI.emp))
      ⊢ (bigSep Finset.univ (fun c : Dev nD => rest c) : sProp 𝕄) := bigSep_mono fun c _ => one c
  iintro ⟨H, -⟩
  imodintro
  iapply key
  iexact H

theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu
  imodintro
  isplitl [Hu]
  · iapply (show (ownU _ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- A final memory's contents at a buffer of core `c`. -/
abbrev Ends (mem : (ℓ : Loc nD τ sig) → Buf (Elt F) ℓ) (c : Dev nD) : Prop :=
  ∀ r : Ref sig .tc, r.isScoped = false → mem ((c.tc : Thread nD τ).loc r) = V7 m (outs m) c (Proc.devRef .tc r)

set_option backward.isDefEq.respectTransparency.types false in
set_option maxHeartbeats 1000000 in
/-- The run: every weakly fair execution terminates, with every unscoped buffer at the last valuation and every counter at zero. -/
theorem run : θ_run defs (onTc (τ := τ) (main (F := F))) ⟨m, fun _ => 0, ρ⟩
    (fun r => (∀ c : Dev nD, Ends m r.2.mem c) ∧ r.2.sem = fun _ => 0) := by
  refine Pipeline.θ_run_regions_kit_dev_sems (pcfgs (F := F)) adm (pdats m) () cellOf_inj emb₁ defs₀ Variants.none Lev (fun _ _ => (0 : ℕ)) m ρ main
    (segs m (outs m) Variants.none Lev (fun _ _ => (0 : ℕ)) (fun _ c => rest c) () (pdats m) (seg0 m) (seg6 m))
    (fun c Q => by
      rewrite [main_chain c, Pipeline.Seg.run_eq_chain,
        show (segs m (outs m) Variants.none Lev (fun _ _ => (0 : ℕ)) (fun _ c => rest c) () (pdats m) (seg0 m) (seg6 m) c).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (fun _ => 0)
    (fun g hg => by unfold Lev; exact if_neg hg) (fun _ => BI.emp) _ launch_ghost
    (T₀ := fun c => iprop(StableHlo.held (c : Thread nD τ) (Pipeline.ucRefs τ sig) (V0 m c) ∗ rest c))
    (Tₙ := fun c => StableHlo.held (c : Thread nD τ) (Pipeline.ucRefs τ sig) (V7 m (outs m) c))
    (hch := fun c => ⟨pre0 m c, post0 m c, .rfl, .rfl, .rfl, .rfl, pre6 m c, post6 m c⟩)
    (hinit := ?_) (QY := fun c s => Ends m s.mem c)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod launch_rest ρ $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact fun r hr => h (Proc.devRef .tc r) (Pipeline.devRef_mem_ucRefs hr)
    · iexact HSI

/-- The run's frame: the arguments unchanged, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c main_arg0 rfl).trans (V7_main_arg0 m (outs m) c), (h.1 c main_arg1 rfl).trans (V7_main_arg1 m (outs m) c),
    (h.1 c main_arg2 rfl).trans (V7_main_arg2 m (outs m) c), (h.1 c main_arg3 rfl).trans (V7_main_arg3 m (outs m) c),
    (h.1 c main_arg4 rfl).trans (V7_main_arg4 m (outs m) c), (h.1 c main_arg5 rfl).trans (V7_main_arg5 m (outs m) c),
    (h.1 c main_arg6 rfl).trans (V7_main_arg6 m (outs m) c)⟩, h.2⟩) (run m ρ)

end Cert.Knn

end
-- ==== Proof.Rounds.lean ====
/-
  The last pass's six insertion rounds on whole vectors: the printed chain of payloads is one round, applied six times.
-/
module

public import proofs.«01_k».proof.Proof.Step

@[expose] public section

set_option maxRecDepth 16384

noncomputable section

namespace Cert.Knn

open Cert.KernelIdeal Cert.KernelIdeal.Gen
open Idealize.ShloMosaic Idealize.ShloMosaic.TcCoe

variable {F : FTy → Type} [FloatOps F]

/-- Each row's least candidate. -/
def rMin (c : FVec F S1024x2048 .f32) : FVec F S1024x1 .f32 := k1_pay51 c
/-- Where a row's least candidate stands. -/
def rEq (c : FVec F S1024x2048 .f32) : IVec S1024x2048 1 := k1_pay52 c
/-- The candidates without each row's least one. -/
def rDrop (c : FVec F S1024x2048 .f32) : FVec F S1024x2048 .f32 := k1_pay53 c
/-- The chunk's values where a row's least candidate stands, zero elsewhere. -/
def rMasked (v44 : FVec F S1x2048 .f32) (c : FVec F S1024x2048 .f32) : FVec F S1024x2048 .f32 :=
  select (rEq c) (mulf (broadcastTo S1024x2048 v44 broadcasts_S1x2048_S1024x2048) (broadcast S1024x2048 (Scalar.ofBits .f32 0x3F800000#32)))
    (broadcast S1024x2048 (Scalar.ofBits .f32 0x00000000#32))
/-- Each row's value at its least candidate. -/
def rSum (v44 : FVec F S1x2048 .f32) (c : FVec F S1024x2048 .f32) : FVec F S1024x1 .f32 :=
  shapeCast S1024x1 (multiReduction .add [1] S1024 (rMasked v44 c) 0x00000000#32 reduces_S1024x2048_S1024 (.inl rfl) rfl) shapeCasts_S1024_S1024x1
/-- Where a row's least candidate is below the list's entries. -/
def rLt (c : FVec F S1024x2048 .f32) (m : FVec F S1024x6 .f32) : IVec S1024x6 1 :=
  cmpf .olt (broadcastTo S1024x6 (rMin c) broadcasts_S1024x1_S1024x6) m
/-- The list with each row's least candidate inserted. -/
def rM (c : FVec F S1024x2048 .f32) (m : FVec F S1024x6 .f32) : FVec F S1024x6 .f32 := k1_pay56 c m
/-- The list of values with the least candidate's value inserted. -/
def rV (v44 : FVec F S1x2048 .f32) (c : FVec F S1024x2048 .f32) (m v : FVec F S1024x6 .f32) : FVec F S1024x6 .f32 :=
  select (cmpf .ogt (k1_pay54 c m) (broadcast S1024x6 (Scalar.ofBits .f32 0x00000000#32)))
    (select (cmpf .ogt (k1_pay55 c m) (broadcast S1024x6 (Scalar.ofBits .f32 0x00000000#32))) (k1_pay46 v)
      (broadcastTo S1024x6 (shapeCast S1024x1 (rSum v44 c) shapeCasts_S1024x1_S1024x1) broadcasts_S1024x1_S1024x6)) v

section
variable (c : FVec F S1024x2048 .f32) (m v : FVec F S1024x6 .f32) (v44 : FVec F S1x2048 .f32)
  (v26 : FVec F S1024x2048 .f32) (v77 : IVec S1024x2048 1) (v78 : FVec F S1024x2048 .f32)

theorem e43 : k1_pay43 v26 v77 v78 = rDrop (k1_pay40 v26 v77 v78) := rfl
theorem e47 : k1_pay47 v26 v77 v78 m = rM (k1_pay40 v26 v77 v78) m := rfl
theorem e53 : k1_pay53 c = rDrop c := rfl
theorem e56 : k1_pay56 c m = rM c m := rfl
theorem e57 (c' : FVec F S1024x2048 .f32) (m' : FVec F S1024x6 .f32) :
    k1_pay57 v44 v c' (k1_pay46 v) m' (k1_pay48 v26 v77 v78 m) (k1_pay49 v26 v77 v78 m) (k1_pay50 v26 v44 v77 v78)
      = rV v44 c' m' (rV v44 (k1_pay40 v26 v77 v78) m v) := rfl
theorem e58 : k1_pay58 c = rMin (rDrop c) := rfl
theorem e60 : k1_pay60 c (rMin c) = rDrop c := rfl
theorem e63 : k1_pay63 m (rMin c) = rM c m := rfl
theorem e64 : k1_pay64 v44 c m v (rMin c) = rV v44 c m v := rfl
theorem e65 : k1_pay65 c (rMin c) = rMin (rDrop c) := rfl
theorem e66 : k1_pay66 c (rMin c) = rEq (rDrop c) := rfl
theorem e69 : k1_pay69 c (rEq c) = rDrop c := rfl
theorem e72 : k1_pay72 m (rMin c) = rM c m := rfl
theorem e73 : k1_pay73 m v (rMin c) (rEq c) k1_pay67 (k1_pay68 v44) = rV v44 c m v := rfl
theorem e74 : k1_pay74 c (rEq c) = rMin (rDrop c) := rfl
theorem e75 : k1_pay75 c (rEq c) = rEq (rDrop c) := rfl
theorem e76 : k1_pay76 v44 c (rEq c) = rMasked v44 (rDrop c) := rfl
theorem e80 : k1_pay80 m (rMin c) = rM c m := rfl
theorem e81 : k1_pay81 m v (rMin c) (rMasked v44 c) = rV v44 c m v := rfl
theorem e82 : k1_pay82 c (rEq c) = rMin (rDrop c) := rfl
theorem e83 : k1_pay83 v44 c (rEq c) = rSum v44 (rDrop c) := rfl
theorem e84 : k1_pay84 c m (rMin c) (rEq c) = rLt (rDrop c) (rM c m) := rfl
theorem e3 : k1_pay3 m (rMin c) (rLt c m) (Scalar.ofBits .f32 0x3F800000#32) = shapeCast S1024x6 (rM c m) shapeCasts_S1024x6_S1024x6 := rfl
theorem e4 : k1_pay4 v (rSum v44 c) (rLt c m) (Scalar.ofBits .f32 0x3F800000#32) = shapeCast S1024x6 (rV v44 c m v) shapeCasts_S1024x6_S1024x6 := rfl
end

/-- The candidates, the list and its values after `k` rounds. -/
def rRounds (v44 : FVec F S1x2048 .f32) (c : FVec F S1024x2048 .f32) (m v : FVec F S1024x6 .f32) :
    ℕ → FVec F S1024x2048 .f32 × FVec F S1024x6 .f32 × FVec F S1024x6 .f32
  | 0 => (c, m, v)
  | k + 1 => let q := rRounds v44 c m v k; (rDrop q.1, rM q.1 q.2.1, rV v44 q.1 q.2.1 q.2.2)

/-- A chunk's chain is six rounds on its candidates: the list, -/
theorem chainM_eq (v26 : FVec F S1024x2048 .f32) (v43 : Vec F S1x1x2048 .f32) (v45 v46 : Vec F S1024x1 .f32) (v80 v81 : Vec F S1024x6 .f32) :
    chainM v26 v43 v45 v46 v80 v81
      = (rRounds (k1_pay33 v43) (k1_pay40 v26 (k1_pay38 v26 v45 v46) k1_pay39) v80 v81 6).2.1 := by
  simp only [chainM, e43, e47, e53, e56, e57, e58, e60, e63, e64, e65, e66, e69, e72, e73, e74, e75, e76, e80, e81, e82, e83, e84, e3,
    rRounds, shapeCast_self]
/-- and its values. -/
theorem chainV_eq (v26 : FVec F S1024x2048 .f32) (v43 : Vec F S1x1x2048 .f32) (v45 v46 : Vec F S1024x1 .f32) (v80 v81 : Vec F S1024x6 .f32) :
    chainV v26 v43 v45 v46 v80 v81
      = (rRounds (k1_pay33 v43) (k1_pay40 v26 (k1_pay38 v26 v45 v46) k1_pay39) v80 v81 6).2.2 := by
  simp only [chainV, e43, e47, e53, e56, e57, e58, e60, e63, e64, e65, e66, e69, e72, e73, e74, e75, e76, e80, e81, e82, e83, e84, e4,
    rRounds, shapeCast_self]

end Cert.Knn
-- ==== Proof.Chain.lean ====
/-
  The chain of insertions by which the last pass of the kernel sorts a handful of distances, over plain numbers:
  one round takes the least of a set of candidates out and inserts it in a list kept in increasing order.  The
  theorems here say which distances and values the list holds after any number of rounds and of chunks.
-/
module

public import Mathlib.Data.EReal.Operations
public import Mathlib.Algebra.BigOperators.Group.Finset.Basic
public import Mathlib.Algebra.BigOperators.Fin
public import Mathlib.Data.Finset.Max
public import Mathlib.Data.Finset.Image
public import Mathlib.Data.Fintype.Fin
public import Mathlib.Order.Interval.Finset.Nat

@[expose] public section

namespace Cert.Knn

/-- How many members of `A` lie strictly below `x`. -/
noncomputable def rank (D : ℕ → EReal) (A : Finset ℕ) (x : EReal) : ℕ := (A.filter fun a => D a < x).card

/-- The least-first list after `x` is inserted: entry `i`. -/
noncomputable def insM (x : EReal) (m : ℕ → EReal) (i : ℕ) : EReal :=
  if x < m i then (if 0 < i ∧ x < m (i - 1) then m (i - 1) else x) else m i

/-- The list of values carried along when `x` with value `y` is inserted: entry `i`. -/
noncomputable def insV (x y : EReal) (m v : ℕ → EReal) (i : ℕ) : EReal :=
  if x < m i then (if 0 < i ∧ x < m (i - 1) then v (i - 1) else y) else v i

/-- The list holds the members of `A` in increasing order, followed by numbers above everything of interest. -/
structure Inv (D V : ℕ → EReal) (G A : Finset ℕ) (m v : ℕ → EReal) : Prop where
  /-- the members of interest only -/
  sub : A ⊆ G
  /-- the first entries are the members, by rank -/
  low : ∀ i < 6, i < A.card → ∃ a ∈ A, m i = D a ∧ v i = V a ∧ rank D A (D a) = i
  /-- the later entries are above everything of interest -/
  high : ∀ i < 6, A.card ≤ i → ∀ a ∈ G, D a < m i

variable {D V : ℕ → EReal} {G A : Finset ℕ} {m v : ℕ → EReal}

theorem rank_le {x y : EReal} (h : x ≤ y) : rank D A x ≤ rank D A y :=
  Finset.card_le_card fun a ha => by
    rw [Finset.mem_filter] at ha ⊢
    exact ⟨ha.1, lt_of_lt_of_le ha.2 h⟩

theorem rank_lt {a : ℕ} {y : EReal} (ha : a ∈ A) (h : D a < y) : rank D A (D a) < rank D A y := by
  apply Finset.card_lt_card
  rw [Finset.ssubset_iff_of_subset]
  · exact ⟨a, Finset.mem_filter.2 ⟨ha, h⟩, fun h' => absurd (Finset.mem_filter.1 h').2 (lt_irrefl _)⟩
  · intro b hb
    rw [Finset.mem_filter] at hb ⊢
    exact ⟨hb.1, lt_trans hb.2 h⟩

theorem rank_le_card (x : EReal) : rank D A x ≤ A.card := Finset.card_filter_le _ _

theorem rank_insert {b : ℕ} (hb : b ∉ A) (x : EReal) :
    rank D (insert b A) x = rank D A x + if D b < x then 1 else 0 := by
  unfold rank
  rw [Finset.filter_insert]
  split
  · rw [Finset.card_insert_of_notMem fun h => hb (Finset.mem_filter.1 h).1]
  · rfl

/-- A member's number is below entry `i` exactly when its rank is at most `i`. -/
theorem lt_entry (h : Inv D V G A m v) (inj : Set.InjOn D G) {b : ℕ} (hb : b ∈ G) (hbA : b ∉ A) {i : ℕ} (hi : i < 6) :
    D b < m i ↔ rank D A (D b) ≤ i := by
  by_cases hc : i < A.card
  · obtain ⟨a, ha, em, -, er⟩ := h.low i hi hc
    rw [em, ← er]
    constructor
    · intro hl; exact rank_le hl.le
    · intro hl
      by_contra hn
      have hne : D a ≠ D b := fun e => hbA (inj (h.sub ha) hb e ▸ ha)
      have : D a < D b := lt_of_le_of_ne (not_lt.1 hn) hne
      exact absurd (rank_lt ha this) (not_lt.2 hl)
  · exact ⟨fun _ => (rank_le_card _).trans (not_lt.1 hc), fun _ => h.high i hi (not_lt.1 hc) b hb⟩

/-- Inserting a member not yet there adds it. -/
theorem Inv.insert (h : Inv D V G A m v) (inj : Set.InjOn D G) {b : ℕ} (hb : b ∈ G) (hbA : b ∉ A) :
    Inv D V G (Insert.insert b A) (insM (D b) m) (insV (D b) (V b) m v) := by
  have key : ∀ i < 6, (rank D A (D b) < i → insM (D b) m i = m (i - 1) ∧ insV (D b) (V b) m v i = v (i - 1)) ∧
      (rank D A (D b) = i → insM (D b) m i = D b ∧ insV (D b) (V b) m v i = V b) ∧
      (i < rank D A (D b) → insM (D b) m i = m i ∧ insV (D b) (V b) m v i = v i) := by
    intro i hi
    have e := lt_entry h inj hb hbA hi
    have e' : 0 < i → (D b < m (i - 1) ↔ rank D A (D b) ≤ i - 1) := fun _ => lt_entry h inj hb hbA (by omega)
    refine ⟨fun hl => ?_, fun hl => ?_, fun hl => ?_⟩
    · have h1 : D b < m i := e.2 hl.le
      have h2 : 0 < i ∧ D b < m (i - 1) := ⟨by omega, (e' (by omega)).2 (by omega)⟩
      unfold insM insV
      rw [if_pos h1, if_pos h2, if_pos h1, if_pos h2]; exact ⟨rfl, rfl⟩
    · have h1 : D b < m i := e.2 hl.le
      have h2 : ¬(0 < i ∧ D b < m (i - 1)) := fun ⟨p, q⟩ => by have := (e' p).1 q; omega
      unfold insM insV
      rw [if_pos h1, if_neg h2, if_pos h1, if_neg h2]; exact ⟨rfl, rfl⟩
    · have h1 : ¬ D b < m i := fun q => by have := e.1 q; omega
      unfold insM insV
      rw [if_neg h1, if_neg h1]; exact ⟨rfl, rfl⟩
  have hk := rank_le_card (D := D) (A := A) (D b)
  have hcard : (Insert.insert b A).card = A.card + 1 := Finset.card_insert_of_notMem hbA
  refine ⟨Finset.insert_subset hb h.sub, fun i hi hc => ?_, fun i hi hc a ha => ?_⟩
  · rw [hcard] at hc
    obtain ⟨k1, k2, k3⟩ := key i hi
    rcases lt_trichotomy (rank D A (D b)) i with hl | hl | hl
    · obtain ⟨a, ha, em, ev, er⟩ := h.low (i - 1) (by omega) (by omega)
      refine ⟨a, Finset.mem_insert_of_mem ha, (k1 hl).1.trans em, (k1 hl).2.trans ev, ?_⟩
      have hlt : D b < D a := by rw [← em]; exact (lt_entry h inj hb hbA (by omega)).2 (by omega)
      rw [rank_insert hbA, if_pos hlt]; omega
    · refine ⟨b, Finset.mem_insert_self _ _, (k2 hl).1, (k2 hl).2, ?_⟩
      rw [rank_insert hbA, if_neg (lt_irrefl _)]; omega
    · obtain ⟨a, ha, em, ev, er⟩ := h.low i hi (by omega)
      refine ⟨a, Finset.mem_insert_of_mem ha, (k3 hl).1.trans em, (k3 hl).2.trans ev, ?_⟩
      have hlt : ¬ D b < D a := by
        rw [← em]; intro q; have := (lt_entry h inj hb hbA hi).1 q; omega
      rw [rank_insert hbA, if_neg hlt]; omega
  · rw [hcard] at hc
    rw [((key i hi).1 (by omega)).1]
    exact h.high (i - 1) (by omega) (by omega) a ha

/-- Inserting a number above everything of interest changes nothing of interest. -/
theorem Inv.skip (h : Inv D V G A m v) {x : EReal} (y : EReal) (hx : ∀ a ∈ G, D a < x) :
    Inv D V G A (insM x m) (insV x y m v) := by
  have hm : ∀ i < 6, i < A.card → ¬ x < m i := by
    intro i hi hc q
    obtain ⟨a, ha, em, -, -⟩ := h.low i hi hc
    rw [em] at q
    exact lt_asymm q (hx a (h.sub ha))
  refine ⟨h.sub, fun i hi hc => ?_, fun i hi hc a ha => ?_⟩
  · obtain ⟨a, ha, em, ev, er⟩ := h.low i hi hc
    refine ⟨a, ha, ?_, ?_, er⟩
    · unfold insM; rw [if_neg (hm i hi hc)]; exact em
    · unfold insV; rw [if_neg (hm i hi hc)]; exact ev
  · unfold insM
    split
    · split
      · rename_i q1 q2
        by_cases hq : i - 1 < A.card
        · exact absurd q2.2 (hm _ (by omega) hq)
        · exact h.high _ (by omega) (by omega) a ha
      · exact hx a ha
    · exact h.high i hi hc a ha

variable {n : ℕ}

/-- The candidates left: the members of `R` with their own numbers, everything else above the set of interest. -/
structure Cand (D : ℕ → EReal) (G : Finset ℕ) (e : Fin n → ℕ) (R : Finset (Fin n)) (c : Fin n → EReal) : Prop where
  /-- a candidate is of interest -/
  mem : ∀ r ∈ R, e r ∈ G
  /-- and has its own number -/
  own : ∀ r ∈ R, c r = D (e r)
  /-- everything else is above -/
  above : ∀ r, r ∉ R → ∀ a ∈ G, D a < c r

/-- The least candidate. -/
noncomputable def least (c : Fin n → EReal) : EReal := (Finset.univ : Finset (Fin n)).fold min ⊤ c

/-- The value at the least candidate. -/
noncomputable def leastV (c w : Fin n → EReal) : EReal := ∑ r, if c r = least c then w r else 0

/-- The candidates with the least one replaced by `B`. -/
noncomputable def dropLeast (B : EReal) (c : Fin n → EReal) (r : Fin n) : EReal := if c r = least c then B else c r

/-- One round: whatever is left of the candidates moves by one into the list. -/
theorem round_step (inj : Set.InjOn D G) {e : Fin n → ℕ} (he : Function.Injective e) {R : Finset (Fin n)}
    {c w : Fin n → EReal} {B : EReal} (hB : ∀ a ∈ G, D a < B) (hw : ∀ r, w r = V (e r))
    (h : Inv D V G A m v) (hc : Cand D G e R c) (hd : ∀ r ∈ R, e r ∉ A) :
    ∃ R' A', Inv D V G A' (insM (least c) m) (insV (least c) (leastV c w) m v) ∧ Cand D G e R' (dropLeast B c) ∧
      (∀ r ∈ R', e r ∉ A') ∧ A' ∪ R'.image e = A ∪ R.image e ∧ R'.card = R.card - 1 := by
  rcases R.eq_empty_or_nonempty with rfl | hne
  · have hl : ∀ a ∈ G, D a < least c := by
      intro a ha
      unfold least
      rw [Finset.lt_fold_min]
      exact ⟨lt_of_lt_of_le (hB a ha) le_top, fun r _ => hc.above r (Finset.notMem_empty r) a ha⟩
    refine ⟨∅, A, h.skip _ hl, ⟨fun r hr => absurd hr (Finset.notMem_empty r), fun r hr => absurd hr (Finset.notMem_empty r), fun r hr a ha => ?_⟩, fun r hr => absurd hr (Finset.notMem_empty r), rfl, rfl⟩
    unfold dropLeast
    split
    · exact hB a ha
    · exact hc.above r hr a ha
  · obtain ⟨r0, hr0, hmin⟩ := R.exists_min_image (fun r => D (e r)) hne
    have hleast : least c = D (e r0) := by
      unfold least
      apply le_antisymm
      · rw [Finset.fold_min_le]; right; exact ⟨r0, Finset.mem_univ _, (hc.own r0 hr0).le⟩
      · rw [Finset.le_fold_min]
        refine ⟨le_top, fun r _ => ?_⟩
        by_cases hr : r ∈ R
        · rw [hc.own r hr]; exact hmin r hr
        · exact (hc.above r hr _ (hc.mem r0 hr0)).le
    have huniq : ∀ r, c r = least c ↔ r = r0 := by
      intro r
      rw [hleast]
      constructor
      · intro q
        by_cases hr : r ∈ R
        · rw [hc.own r hr] at q
          exact he (inj (hc.mem r hr) (hc.mem r0 hr0) q)
        · exact absurd q (hc.above r hr _ (hc.mem r0 hr0)).ne'
      · rintro rfl; exact hc.own r hr0
    have hv : leastV c w = V (e r0) := by
      unfold leastV
      rw [Finset.sum_eq_single r0 (fun r _ hr => if_neg fun q => hr ((huniq r).1 q)) (fun q => absurd (Finset.mem_univ _) q),
        if_pos ((huniq r0).2 rfl), hw]
    refine ⟨R.erase r0, insert (e r0) A, ?_, ⟨fun r hr => hc.mem r (Finset.mem_of_mem_erase hr), fun r hr => ?_, fun r hr a ha => ?_⟩, fun r hr q => ?_, ?_, Finset.card_erase_of_mem hr0⟩
    · rw [hv, hleast]; exact h.insert inj (hc.mem r0 hr0) (hd r0 hr0)
    · unfold dropLeast
      rw [if_neg fun q => Finset.ne_of_mem_erase hr ((huniq r).1 q)]
      exact hc.own r (Finset.mem_of_mem_erase hr)
    · unfold dropLeast
      split
      · exact hB a ha
      · rename_i q
        exact hc.above r (fun hrR => hr (Finset.mem_erase.2 ⟨fun q' => q ((huniq r).2 q'), hrR⟩)) a ha
    · rcases Finset.mem_insert.1 q with q | q
      · exact Finset.ne_of_mem_erase hr (he q)
      · exact hd r (Finset.mem_of_mem_erase hr) q
    · rw [Finset.insert_union, ← Finset.union_insert, ← Finset.image_insert, Finset.insert_erase hr0]

/-- The list, the candidates and the values after `k` rounds. -/
noncomputable def rounds (B : EReal) (w : Fin n → EReal) :
    ℕ → (Fin n → EReal) × (ℕ → EReal) × (ℕ → EReal) → (Fin n → EReal) × (ℕ → EReal) × (ℕ → EReal)
  | 0, s => s
  | k + 1, s =>
    let q := rounds B w k s
    (dropLeast B q.1, insM (least q.1) q.2.1, insV (least q.1) (leastV q.1 w) q.2.1 q.2.2)

/-- Enough rounds move every candidate into the list. -/
theorem rounds_all (inj : Set.InjOn D G) {e : Fin n → ℕ} (he : Function.Injective e) {R : Finset (Fin n)}
    {c w : Fin n → EReal} {B : EReal} (hB : ∀ a ∈ G, D a < B) (hw : ∀ r, w r = V (e r))
    (h : Inv D V G A m v) (hc : Cand D G e R c) (hd : ∀ r ∈ R, e r ∉ A) (k : ℕ) (hk : R.card ≤ k) :
    Inv D V G (A ∪ R.image e) (rounds B w k (c, m, v)).2.1 (rounds B w k (c, m, v)).2.2 := by
  have main : ∀ k, ∃ R' A', Inv D V G A' (rounds B w k (c, m, v)).2.1 (rounds B w k (c, m, v)).2.2 ∧
      Cand D G e R' (rounds B w k (c, m, v)).1 ∧ (∀ r ∈ R', e r ∉ A') ∧ A' ∪ R'.image e = A ∪ R.image e ∧
      R'.card = R.card - k := by
    intro k
    induction k with
    | zero => exact ⟨R, A, h, hc, hd, rfl, rfl⟩
    | succ k ih =>
      obtain ⟨R', A', i1, i2, i3, i4, i5⟩ := ih
      obtain ⟨R2, A2, j1, j2, j3, j4, j5⟩ := round_step inj he hB hw i1 i2 i3
      exact ⟨R2, A2, j1, j2, j3, j4.trans i4, by omega⟩
  obtain ⟨R', A', i1, -, -, i4, i5⟩ := main k
  have : R' = ∅ := Finset.card_eq_zero.1 (by omega)
  subst this
  rw [Finset.image_empty, Finset.union_empty] at i4
  rwa [i4] at i1

/-- A sum over the list's entries of the members is the sum over the members. -/
theorem sum_entries (h : Inv D V G A m v) (hA : A.card ≤ 6) (f : EReal → EReal → EReal) :
    (∑ i ∈ Finset.range 6, if i < A.card then f (m i) (v i) else 0) = ∑ a ∈ A, f (D a) (V a) := by
  rw [← Finset.sum_filter]
  have hr : (Finset.range 6).filter (fun i => i < A.card) = Finset.range A.card := by
    ext i; simp only [Finset.mem_filter, Finset.mem_range]; omega
  rw [hr]
  symm
  have hlow : ∀ a ∈ A, rank D A (D a) < A.card := fun a ha =>
    Finset.card_lt_card ((Finset.ssubset_iff_of_subset (Finset.filter_subset _ _)).2
      ⟨a, ha, fun q => absurd (Finset.mem_filter.1 q).2 (lt_irrefl _)⟩)
  have hsame : ∀ a ∈ A, ∀ b ∈ A, rank D A (D a) = rank D A (D b) → D a = D b := by
    intro a ha b hb q
    rcases lt_trichotomy (D a) (D b) with l | l | l
    · exact absurd q (rank_lt ha l).ne
    · exact l
    · exact absurd q (rank_lt hb l).ne'
  have hsurj : Set.SurjOn (fun a => rank D A (D a)) A (Finset.range A.card) := by
    intro i hi
    have hi' := Finset.mem_range.1 (Finset.mem_coe.1 hi)
    obtain ⟨a, ha, -, -, er⟩ := h.low i (by omega) hi'
    exact ⟨a, ha, er⟩
  have hinj : Set.InjOn (fun a => rank D A (D a)) A :=
    Finset.injOn_of_surjOn_of_card_le _ (fun a ha => Finset.mem_range.2 (hlow a ha)) hsurj (by rw [Finset.card_range])
  refine Finset.sum_bij (fun a _ => rank D A (D a)) (fun a ha => Finset.mem_range.2 (hlow a ha))
    (fun a ha b hb q => hinj ha hb q) (fun i hi => ?_) (fun a ha => ?_)
  · obtain ⟨a, ha, q⟩ := hsurj (Finset.mem_coe.2 hi); exact ⟨a, ha, q⟩
  · obtain ⟨b, hb, em, ev, er⟩ := h.low _ (by have := hlow a ha; omega) (hlow a ha)
    have : b = a := hinj hb ha er
    subst this
    rw [em, ev]

end Cert.Knn
-- ==== Proof.RoundAt.lean ====
/-
  One insertion round read at a row: the row's list after the round is the plain insertion of the row's least candidate.
-/
module

public import proofs.«01_k».proof.Proof.Rounds
public import proofs.«01_k».proof.Proof.Chain
public import Idealize.ShloMosaic.Lib.Pointwise

@[expose] public section

set_option maxRecDepth 16384

noncomputable section

namespace Cert.Knn

open Cert.KernelIdeal Cert.KernelIdeal.Gen
open Idealize.ShloMosaic Idealize.ShloMosaic.TcCoe

/-- The word for the replaced distance, as a number. -/
def big : EReal := Ideal.ofBits .f32 0x7F61B1E6#32

theorem ofBits_inf : Ideal.ofBits .f32 0x7F800000#32 = ⊤ := by
  simp [Ideal.ofBits, Ideal.ieee]
theorem ofBits_ninf : Ideal.ofBits .f32 0xFF800000#32 = ⊥ := by
  simp [Ideal.ofBits, Ideal.ieee]

theorem ite_bit {α : Type*} (p : Prop) [Decidable p] (a b : α) :
    (if BitVec.ofBool (decide p) = 1#1 then a else b) = if p then a else b := by
  by_cases h : p <;> simp [h]

/-- A row of a list of six, as a function of the natural numbers. -/
def row6 (m : FVec Ideal S1024x6 .f32) (b : Fin 1024) (i : ℕ) : EReal := if h : i < 6 then m (ix2 b ⟨i, h⟩) else 0

theorem rMin_at (c : FVec Ideal S1024x2048 .f32) (b : Fin 1024) :
    rMin c (ix2 b 0) = least fun r => c (ix2 b r) := by
  pointwise [rMin, k1_pay51, least]
  rw [ofBits_inf]

theorem pay51_at (c : FVec Ideal S1024x2048 .f32) (b : Fin 1024) :
    k1_pay51 c (ix2 b 0) = least fun r => c (ix2 b r) := rMin_at c b

theorem rDrop_at (c : FVec Ideal S1024x2048 .f32) (b : Fin 1024) (r : Fin 2048) :
    rDrop c (ix2 b r) = dropLeast big (fun r => c (ix2 b r)) r := by
  pointwise [rDrop, k1_pay53, k1_pay52, dropLeast, big]
  rw [pay51_at]

theorem rSum_at (v44 : FVec Ideal S1x2048 .f32) (c : FVec Ideal S1024x2048 .f32) (b : Fin 1024) :
    rSum v44 c (ix2 b 0) = leastV (fun r => c (ix2 b r)) fun r => v44 (ix2 0 r) := by
  pointwise [rSum, rMasked, rEq, k1_pay52, leastV]
  rw [pay51_at]

theorem pay54_at (c : FVec Ideal S1024x2048 .f32) (m : FVec Ideal S1024x6 .f32) (b : Fin 1024) (i : Fin 6) :
    k1_pay54 c m (ix2 b i) = if (least fun r => c (ix2 b r)) < m (ix2 b i) then 1 else 0 := by
  pointwise [k1_pay54]
  rw [pay51_at]

theorem gt54 (c : FVec Ideal S1024x2048 .f32) (m : FVec Ideal S1024x6 .f32) (b : Fin 1024) (i : Fin 6) :
    0 < k1_pay54 c m (ix2 b i) ↔ (least fun r => c (ix2 b r)) < m (ix2 b i) := by
  rw [pay54_at]; split <;> simp_all

theorem pay55_at (c : FVec Ideal S1024x2048 .f32) (m : FVec Ideal S1024x6 .f32) (b : Fin 1024) (i : Fin 6) :
    k1_pay55 c m (ix2 b i) = if h : i.val = 0 then 0 else k1_pay54 c m (ix2 b ⟨i.val - 1, by omega⟩) := by
  fin_cases i <;> pointwise [k1_pay55]

theorem row6_at (m : FVec Ideal S1024x6 .f32) (b : Fin 1024) (i : Fin 6) : row6 m b i = m (ix2 b i) :=
  dif_pos i.isLt

theorem gt55 (c : FVec Ideal S1024x2048 .f32) (m : FVec Ideal S1024x6 .f32) (b : Fin 1024) (i : Fin 6) :
    0 < k1_pay55 c m (ix2 b i) ↔ (0 < i.val ∧ (least fun r => c (ix2 b r)) < row6 m b (i.val - 1)) := by
  rw [pay55_at]
  by_cases h : i.val = 0
  · rw [dif_pos h]; simp [h]
  · rw [dif_neg h, gt54]
    have e : row6 m b (i.val - 1) = m (ix2 b ⟨i.val - 1, by omega⟩) := dif_pos (by omega)
    rw [e]
    exact ⟨fun q => ⟨by omega, q⟩, fun q => q.2⟩

theorem gt54' (c : FVec Ideal S1024x2048 .f32) (m : FVec Ideal S1024x6 .f32) (b : Fin 1024) (i : Fin 6) :
    0 < k1_pay54 c m (ix2 b i) ↔ (least fun r => c (ix2 b r)) < row6 m b i := by
  rw [gt54, row6_at]

/-- The list after a round, at a row. -/
theorem rM_at (c : FVec Ideal S1024x2048 .f32) (m : FVec Ideal S1024x6 .f32) (b : Fin 1024) (i : Fin 6) :
    rM c m (ix2 b i) = insM (least fun r => c (ix2 b r)) (row6 m b) i := by
  have h4 := gt54' c m b i
  have h5 := gt55 c m b i
  have key : rM c m (ix2 b i) = if 0 < k1_pay54 c m (ix2 b i) then
      (if 0 < k1_pay55 c m (ix2 b i) then row6 m b (i.val - 1) else k1_pay51 c (ix2 b 0)) else row6 m b i := by
    fin_cases i <;> pointwise [rM, k1_pay56] <;> simp [row6]
  rw [key, pay51_at]
  simp only [h4, h5, insM]

/-- The list of values after a round, at a row. -/
theorem rV_at (v44 : FVec Ideal S1x2048 .f32) (c : FVec Ideal S1024x2048 .f32) (m v : FVec Ideal S1024x6 .f32) (b : Fin 1024) (i : Fin 6) :
    rV v44 c m v (ix2 b i)
      = insV (least fun r => c (ix2 b r)) (leastV (fun r => c (ix2 b r)) fun r => v44 (ix2 0 r)) (row6 m b) (row6 v b) i := by
  have h4 := gt54' c m b i
  have h5 := gt55 c m b i
  have key : rV v44 c m v (ix2 b i) = if 0 < k1_pay54 c m (ix2 b i) then
      (if 0 < k1_pay55 c m (ix2 b i) then row6 v b (i.val - 1) else rSum v44 c (ix2 b 0)) else row6 v b i := by
    fin_cases i <;> pointwise [rV, k1_pay46] <;> simp [row6]
  rw [key, rSum_at]
  simp only [h4, h5, insV]

/-- All the rounds of a chunk, at a row: the plain rounds on the row. -/
theorem rRounds_at (v44 : FVec Ideal S1x2048 .f32) (c : FVec Ideal S1024x2048 .f32) (m v : FVec Ideal S1024x6 .f32) (b : Fin 1024) (k : ℕ)
    (M W : ℕ → EReal) (hM : ∀ i < 6, row6 m b i = M i) (hW : ∀ i < 6, row6 v b i = W i) :
    (fun r => (rRounds v44 c m v k).1 (ix2 b r)) = (rounds big (fun r => v44 (ix2 0 r)) k (fun r => c (ix2 b r), M, W)).1 ∧
    (∀ i < 6, row6 (rRounds v44 c m v k).2.1 b i = (rounds big (fun r => v44 (ix2 0 r)) k (fun r => c (ix2 b r), M, W)).2.1 i) ∧
    (∀ i < 6, row6 (rRounds v44 c m v k).2.2 b i = (rounds big (fun r => v44 (ix2 0 r)) k (fun r => c (ix2 b r), M, W)).2.2 i) := by
  induction k with
  | zero => exact ⟨rfl, hM, hW⟩
  | succ k ih =>
    obtain ⟨i1, i2, i3⟩ := ih
    refine ⟨funext fun r => ?_, fun i hi => ?_, fun i hi => ?_⟩
    · show rDrop (rRounds v44 c m v k).1 (ix2 b r) = _
      rw [rDrop_at, i1]; rfl
    · show row6 (rM (rRounds v44 c m v k).1 (rRounds v44 c m v k).2.1) b i = _
      rw [row6, dif_pos hi, rM_at, i1]
      show insM _ _ i = insM _ _ i
      unfold insM
      rw [i2 i hi, i2 (i - 1) (by omega)]
    · show row6 (rV v44 (rRounds v44 c m v k).1 (rRounds v44 c m v k).2.1 (rRounds v44 c m v k).2.2) b i = _
      rw [row6, dif_pos hi, rV_at, i1]
      show insV _ _ _ _ i = insV _ _ _ _ i
      unfold insV
      rw [i2 i hi, i2 (i - 1) (by omega), i3 i hi, i3 (i - 1) (by omega)]

end Cert.Knn
-- ==== Proof.Search.lean ====
/-
  The threshold search at a row, as functions of plain numbers: how a count moves the bracket and which threshold is tried
  next.  The kernel's vectors and the precondition's both follow it.
-/
module

public import proofs.«01_k».proof.Proof.RoundAt
public import proofs.«01_k».proof.Pre_search_succeeds

@[expose] public section

set_option maxRecDepth 16384

noncomputable section

namespace Cert.Knn

open Cert.KernelIdeal Cert.KernelIdeal.Gen
open Idealize.ShloMosaic Idealize.ShloMosaic.TcCoe

/-- A column of one number a row. -/
abbrev Col := FVec Ideal S1024x1 .f32

/-! ## Tests on single bits -/

theorem sel_if {α : Type} (c : BitVec 1) (a b : α) : Scalar.select c a b = if c = 1#1 then a else b := rfl
theorem and_one (x y : BitVec 1) : IntOp.andi x y = 1#1 ↔ x = 1#1 ∧ y = 1#1 := by revert x y; decide
theorem or_one (x y : BitVec 1) : IntOp.ori x y = 1#1 ↔ x = 1#1 ∨ y = 1#1 := by revert x y; decide
theorem xor_one (x : BitVec 1) : IntOp.xori x 1#1 = 1#1 ↔ ¬ x = 1#1 := by revert x; decide
theorem not_one (x : BitVec 1) : ~~~x = 1#1 ↔ ¬ x = 1#1 := by revert x; decide
theorem ofBool_one (p : Prop) [Decidable p] : BitVec.ofBool (decide p) = 1#1 ↔ p := by
  by_cases h : p <;> simp [h]

/-! ## The search on plain numbers -/

/-- Half. -/
def half : EReal := Ideal.ofBits .f32 0x3F000000#32
/-- A thousandth, as the nearest word. -/
def milli : EReal := Ideal.ofBits .f32 0x3A83126F#32
/-- The logarithm of the target count. -/
def logTarget : EReal := Ideal.ofBits .f32 0x407668D1#32
/-- How far a count is from the target, on the logarithmic scale. -/
def gap (c : EReal) : EReal := Ideal.log (c + 1) - logTarget

/-- The bracket, the gaps at its ends, the side last moved and the threshold tried. -/
structure Srch where
  /-- lower end -/
  lo : EReal
  /-- upper end -/
  hi : EReal
  /-- gap at the lower end -/
  flo : EReal
  /-- gap at the upper end -/
  fhi : EReal
  /-- side last moved -/
  sd : EReal
  /-- threshold tried -/
  t : EReal

namespace Srch
variable (c : EReal) (s : Srch)
/-- The lower end after a count `c`. -/
def nlo : EReal := if 0 ≤ gap c then s.lo else s.t
/-- The upper end after a count `c`. -/
def nhi : EReal := if 0 ≤ gap c then s.t else s.hi
/-- The gap at the lower end, before halving. -/
def flo0 : EReal := if 0 ≤ gap c then s.flo else gap c
/-- The gap at the upper end, before halving. -/
def fhi0 : EReal := if 0 ≤ gap c then gap c else s.fhi
/-- The gap at the lower end. -/
def nflo : EReal := if 0 ≤ gap c ∧ 0 < s.sd then s.flo0 c * half else s.flo0 c
/-- The gap at the upper end. -/
def nfhi : EReal := if ¬ 0 ≤ gap c ∧ s.sd < 0 then s.fhi0 c * half else s.fhi0 c
/-- The side moved. -/
def nsd (c : EReal) : EReal := if 0 ≤ gap c then 1 else Ideal.ofBits .f32 0xBF800000#32
/-- The next threshold for a bracket and the gaps at its ends. -/
def next (lo hi flo fhi : EReal) : EReal :=
  if fhi = 0 then half * (lo + hi)
  else min (hi - milli * (hi - lo)) (max (lo + milli * (hi - lo))
    (Ideal.div (lo * fhi - hi * flo) (if fhi - flo = 0 then 1 else fhi - flo)))
/-- The search after a count `c`. -/
def step : Srch := ⟨s.nlo c, s.nhi c, s.nflo c, s.nfhi c, nsd c, next (s.nlo c) (s.nhi c) (s.nflo c) (s.nfhi c)⟩
/-- The search for a lower and an upper end. -/
def start (lo hi : EReal) : Srch :=
  ⟨lo, hi, Ideal.ofBits .f32 0xC07668D1#32, Ideal.ofBits .f32 0x40F5358F#32, 0, lo + Ideal.ofBits .f32 0x3DCCCCCD#32 * (hi - lo)⟩
end Srch

/-- The count is in the accepted range. -/
def okCount (c : EReal) : Prop := Ideal.ofBits .f32 0x42300000#32 ≤ c ∧ c ≤ Ideal.ofBits .f32 0x42440000#32

/-! ## The kernel's vectors at a row -/

/-- A row of the kernel's search. -/
def srchAt (s : St Ideal) (b : Fin 1024) : Srch :=
  ⟨s.lo (ix2 b 0), s.hi (ix2 b 0), s.flo (ix2 b 0), s.fhi (ix2 b 0), s.sd (ix2 b 0), s.tc (ix2 b 0)⟩

theorem pay19_at (c : Col) (b : Fin 1024) : k1_pay19 (F := Ideal) c (ix2 b 0) = gap (c (ix2 b 0)) := by
  pointwise [k1_pay19, gap, logTarget]
theorem pay20_at (c : Col) (b : Fin 1024) : k1_pay20 (F := Ideal) c (ix2 b 0) = 1#1 ↔ 0 ≤ gap (c (ix2 b 0)) := by
  have h := pay19_at c b
  pointwise [k1_pay20]
  rw [h, ofBool_one]
theorem pay23_at (c t lo : Col) (b : Fin 1024) : k1_pay23 (F := Ideal) c t lo (ix2 b 0) = if 0 ≤ gap (c (ix2 b 0)) then lo (ix2 b 0) else t (ix2 b 0) := by
  have h := pay20_at c b
  pointwise [k1_pay23]
  simp only [sel_if, h]
theorem pay25_at (c t hi : Col) (b : Fin 1024) : k1_pay25 (F := Ideal) c t hi (ix2 b 0) = if 0 ≤ gap (c (ix2 b 0)) then t (ix2 b 0) else hi (ix2 b 0) := by
  have h := pay20_at c b
  pointwise [k1_pay25]
  simp only [sel_if, h]
theorem pay24_at (c flo : Col) (b : Fin 1024) : k1_pay24 (F := Ideal) c flo (ix2 b 0) = if 0 ≤ gap (c (ix2 b 0)) then flo (ix2 b 0) else gap (c (ix2 b 0)) := by
  have h := pay20_at c b
  have h' := pay19_at c b
  pointwise [k1_pay24]
  simp only [sel_if, h, h']
theorem pay26_at (c fhi : Col) (b : Fin 1024) : k1_pay26 (F := Ideal) c fhi (ix2 b 0) = if 0 ≤ gap (c (ix2 b 0)) then gap (c (ix2 b 0)) else fhi (ix2 b 0) := by
  have h := pay20_at c b
  have h' := pay19_at c b
  pointwise [k1_pay26]
  simp only [sel_if, h, h']
theorem pay21_at (c sd : Col) (b : Fin 1024) : k1_pay21 (F := Ideal) c sd (ix2 b 0) = 1#1 ↔ ¬ 0 ≤ gap (c (ix2 b 0)) ∧ sd (ix2 b 0) < 0 := by
  have h := pay20_at c b
  pointwise [k1_pay21]
  simp only [and_one, xor_one, ofBool_one, h]
theorem pay22_at (c sd : Col) (b : Fin 1024) : k1_pay22 (F := Ideal) c sd (ix2 b 0) = 1#1 ↔ 0 ≤ gap (c (ix2 b 0)) ∧ 0 < sd (ix2 b 0) := by
  have h := pay20_at c b
  pointwise [k1_pay22]
  simp only [and_one, ofBool_one, h]
theorem pay27_at (e : IVec S1024x1 1) (f : Col) (b : Fin 1024) : k1_pay27 (F := Ideal) e f (ix2 b 0) = if e (ix2 b 0) = 1#1 then f (ix2 b 0) * half else f (ix2 b 0) := by
  pointwise [k1_pay27, half]
  rfl
theorem pay28_at (e : IVec S1024x1 1) (f : Col) (b : Fin 1024) : k1_pay28 (F := Ideal) e f (ix2 b 0) = if e (ix2 b 0) = 1#1 then f (ix2 b 0) * half else f (ix2 b 0) := by
  pointwise [k1_pay28, half]
  rfl
theorem pay29_at (e g : IVec S1024x1 1) (lo flo hi fhi : Col) (b : Fin 1024) :
    k1_pay29 (F := Ideal) e g lo flo hi fhi (ix2 b 0) = Srch.next (lo (ix2 b 0)) (hi (ix2 b 0)) (k1_pay28 (F := Ideal) g flo (ix2 b 0)) (k1_pay27 (F := Ideal) e fhi (ix2 b 0)) := by
  pointwise [k1_pay29, Srch.next, half, milli]

/-- The kernel's move is the search's step. -/
theorem srchAt_move (s : St Ideal) (b : Fin 1024) : srchAt (stMove s) b = (srchAt s b).step (s.cnt (ix2 b 0)) := by
  unfold srchAt Srch.step
  have e1 : (stMove s).lo (ix2 b 0) = (srchAt s b).nlo (s.cnt (ix2 b 0)) := by
    pointwise [stMove, k1_pay30]; rw [pay23_at]; rfl
  have e2 : (stMove s).hi (ix2 b 0) = (srchAt s b).nhi (s.cnt (ix2 b 0)) := by
    pointwise [stMove, k1_pay31]; rw [pay25_at]; rfl
  have e3 : (stMove s).flo (ix2 b 0) = (srchAt s b).nflo (s.cnt (ix2 b 0)) := by
    pointwise [stMove, k1_pay32]; rw [pay28_at, pay24_at]; simp only [pay22_at]; rfl
  have e4 : (stMove s).fhi (ix2 b 0) = (srchAt s b).nfhi (s.cnt (ix2 b 0)) := by
    pointwise [stMove, k1_pay115]; rw [pay27_at, pay26_at]; simp only [pay21_at]; rfl
  have e5 : (stMove s).sd (ix2 b 0) = Srch.nsd (s.cnt (ix2 b 0)) := by
    have h := pay20_at s.cnt b
    pointwise [stMove, k1_pay116]; simp only [sel_if, h]; rfl
  have e6 : (stMove s).tc (ix2 b 0) = Srch.next ((srchAt s b).nlo (s.cnt (ix2 b 0))) ((srchAt s b).nhi (s.cnt (ix2 b 0))) ((srchAt s b).nflo (s.cnt (ix2 b 0))) ((srchAt s b).nfhi (s.cnt (ix2 b 0))) := by
    pointwise [stMove, k1_pay117]
    rw [pay29_at, pay23_at, pay25_at, pay28_at, pay27_at, pay24_at, pay26_at]; simp only [pay22_at, pay21_at]; rfl
  rw [e1, e2, e3, e4, e5, e6]
  rfl

/-- The kernel's test of a count. -/
theorem pay13_at (c : Col) (b : Fin 1024) : k1_pay13 (F := Ideal) c (ix2 b 0) = 1#1 ↔ okCount (c (ix2 b 0)) := by
  pointwise [k1_pay13, okCount]
  simp only [and_one, ofBool_one]
theorem pay14_at (c t h l : Col) (b : Fin 1024) : k1_pay14 (F := Ideal) c t h l (ix2 b 0) = 1#1 ↔
    okCount (c (ix2 b 0)) ∧ (h (ix2 b 0) = 0 ∨ l (ix2 b 0) < t (ix2 b 0)) := by
  have h := pay13_at c b
  pointwise [k1_pay14]
  simp only [and_one, or_one, ofBool_one, h]

open Classical in
/-- The kept count after a move. -/
theorem move_clo (s : St Ideal) (b : Fin 1024) : (stMove s).clo (ix2 b 0) =
    if okCount (s.cnt (ix2 b 0)) ∧ (s.hav (ix2 b 0) = 0 ∨ s.lov (ix2 b 0) < s.tc (ix2 b 0)) then s.cnt (ix2 b 0) else s.clo (ix2 b 0) := by
  pointwise [stMove, k1_pay16]; simp only [sel_if, pay14_at]
open Classical in
/-- The kept threshold after a move. -/
theorem move_lov (s : St Ideal) (b : Fin 1024) : (stMove s).lov (ix2 b 0) =
    if okCount (s.cnt (ix2 b 0)) ∧ (s.hav (ix2 b 0) = 0 ∨ s.lov (ix2 b 0) < s.tc (ix2 b 0)) then s.tc (ix2 b 0) else s.lov (ix2 b 0) := by
  pointwise [stMove, k1_pay15]; simp only [sel_if, pay14_at]
open Classical in
/-- Whether a threshold is kept, after a move. -/
theorem move_hav (s : St Ideal) (b : Fin 1024) : (stMove s).hav (ix2 b 0) =
    max (s.hav (ix2 b 0)) (if okCount (s.cnt (ix2 b 0)) then 1 else 0) := by
  pointwise [stMove, k1_pay17]; simp only [sel_if, pay13_at]
open Classical in
/-- The upper threshold after a move. -/
theorem move_hiv (s : St Ideal) (b : Fin 1024) : (stMove s).hiv (ix2 b 0) =
    if Ideal.ofBits .f32 0x42480000#32 ≤ s.cnt (ix2 b 0) ∧ s.tc (ix2 b 0) < s.hiv (ix2 b 0) then s.tc (ix2 b 0) else s.hiv (ix2 b 0) := by
  pointwise [stMove, k1_pay18]; simp only [sel_if, and_one, ofBool_one]
theorem move_cnt (s : St Ideal) (b : Fin 1024) : (stMove s).cnt (ix2 b 0) = 0 := by
  pointwise [stMove, k1_pay118]

/-! ## The precondition's pass at a row -/

section
open Cert.Pre_search_succeeds
variable [Cert.Pre_search_succeeds.Facts]

/-- How many of a row's distances are at most `t`. -/
def countAt (d : FVec Ideal Cert.Pre_search_succeeds.S1024x100000 .f32) (b : Fin 1024) (t : EReal) : EReal :=
  ∑ x : Fin 100000, if d (ix2 b x) ≤ t then 1 else 0

/-- The second part's next threshold. -/
theorem part2_t (v10 v17 : IVec Cert.KernelIdeal.S1024x1 1) (v25 v27 v31 v34 : Col) (b : Fin 1024) :
    (fn_search_pass_part2 (F := Ideal) v10 v17 v25 v27 v31 v34 (subf v31 v34)).2.2.2.2.2.1 (ix2 b (0 : Fin 1))
      = Srch.next (v25 (ix2 b (0 : Fin 1))) (v27 (ix2 b (0 : Fin 1))) (v34 (ix2 b (0 : Fin 1))) (v31 (ix2 b (0 : Fin 1))) := by
  pointwise [fn_search_pass_part2, fn_search_pass_part3, fn_clip, fn_where_0, fn_where_1, Srch.next, half, milli]
  simp [constant, Scalar.ofBits, id]

variable (d : FVec Ideal Cert.Pre_search_succeeds.S1024x100000 .f32) (lo hi flo fhi sd t : Col) (found : IVec Cert.KernelIdeal.S1024x1 1) (b : Fin 1024)

/-- The precondition's pass is the search's step on the row's count, and remembers whether a count was accepted. -/
theorem search_pass_at :
    let r := fn_search_pass (F := Ideal) d lo hi flo fhi sd t found
    let c := countAt d b (t (ix2 b (0 : Fin 1)))
    let s : Srch := ⟨lo (ix2 b (0 : Fin 1)), hi (ix2 b (0 : Fin 1)), flo (ix2 b (0 : Fin 1)), fhi (ix2 b (0 : Fin 1)), sd (ix2 b (0 : Fin 1)), t (ix2 b (0 : Fin 1))⟩
    (⟨r.1 (ix2 b (0 : Fin 1)), r.2.1 (ix2 b (0 : Fin 1)), r.2.2.1 (ix2 b (0 : Fin 1)), r.2.2.2.1 (ix2 b (0 : Fin 1)), r.2.2.2.2.1 (ix2 b (0 : Fin 1)), r.2.2.2.2.2.1 (ix2 b (0 : Fin 1))⟩ : Srch) = s.step c
      ∧ (r.2.2.2.2.2.2 (ix2 b (0 : Fin 1)) = 1#1 ↔ found (ix2 b (0 : Fin 1)) = 1#1 ∨ okCount c) := by
  intro r c s
  have e1 : r.1 (ix2 b (0 : Fin 1)) = s.nlo c := by
    pointwise [r, c, s, countAt, fn_search_pass, fn_search_pass_part1, fn_search_pass_part2, fn_search_pass_part3, fn_where, fn_where_0, Srch.nlo, gap, logTarget]
  have e2 : r.2.1 (ix2 b (0 : Fin 1)) = s.nhi c := by
    pointwise [r, c, s, countAt, fn_search_pass, fn_search_pass_part1, fn_search_pass_part2, fn_search_pass_part3, fn_where, fn_where_0, Srch.nhi, gap, logTarget]
  have e3 : r.2.2.1 (ix2 b (0 : Fin 1)) = s.nflo c := by
    pointwise [r, c, s, countAt, fn_search_pass, fn_search_pass_part1, fn_search_pass_part2, fn_search_pass_part3, fn_where, fn_where_0, Srch.nflo, Srch.flo0, gap, logTarget, half]
    simp only [sel_if, and_one, not_one, ofBool_one]
  have e4 : r.2.2.2.1 (ix2 b (0 : Fin 1)) = s.nfhi c := by
    pointwise [r, c, s, countAt, fn_search_pass, fn_search_pass_part1, fn_search_pass_part2, fn_search_pass_part3, fn_where, fn_where_0, Srch.nfhi, Srch.fhi0, gap, logTarget, half]
    simp only [sel_if, and_one, not_one, ofBool_one]
  have e5 : r.2.2.2.2.1 (ix2 b (0 : Fin 1)) = Srch.nsd c := by
    pointwise [r, c, s, countAt, fn_search_pass, fn_search_pass_part1, fn_search_pass_part2, fn_search_pass_part3, fn_where, fn_where_0, fn_where_2, Srch.nsd, gap, logTarget, half]
  have e6 : r.2.2.2.2.2.1 (ix2 b (0 : Fin 1)) = Srch.next (s.nlo c) (s.nhi c) (s.nflo c) (s.nfhi c) := by
    simp only [r, fn_search_pass, fn_search_pass_part1]
    rw [part2_t]
    refine congr (congr (congr (congrArg Srch.next ?_) ?_) ?_) ?_
    · pointwise [c, s, countAt, fn_where, fn_where_0, Srch.nlo, gap, logTarget]
    · pointwise [c, s, countAt, fn_where, fn_where_0, Srch.nhi, gap, logTarget]
    · pointwise [c, s, countAt, fn_where, fn_where_0, Srch.nflo, Srch.flo0, gap, logTarget, half]
      simp only [sel_if, and_one, not_one, ofBool_one]
    · pointwise [c, s, countAt, fn_where, fn_where_0, Srch.nfhi, Srch.fhi0, gap, logTarget, half]
      simp only [sel_if, and_one, not_one, ofBool_one]
  have e7 : r.2.2.2.2.2.2 (ix2 b (0 : Fin 1)) = 1#1 ↔ found (ix2 b (0 : Fin 1)) = 1#1 ∨ okCount c := by
    pointwise [r, c, countAt, fn_search_pass, fn_search_pass_part1, fn_search_pass_part2, fn_search_pass_part3, fn_where, okCount]
    simp only [or_one, and_one, ofBool_one]
  refine ⟨?_, e7⟩
  rw [e1, e2, e3, e4, e5, e6]
  rfl
end

end Cert.Knn
-- ==== Proof.StateAt.lean ====
/-
  What one grid point of the lookup call does to a row: the folds of the first pass, the counts, the sums and the insertions of
  the last pass, and the row of the result, as plain numbers.
-/
module

public import proofs.«01_k».proof.Proof.Search

@[expose] public section

set_option maxRecDepth 16384

noncomputable section

namespace Cert.Knn

open Cert.KernelIdeal Cert.KernelIdeal.Gen
open Idealize.ShloMosaic Idealize.ShloMosaic.TcCoe

/-- A block of keys. -/
abbrev KBlk := Vec Ideal S2048x64 .f32
/-- A block of values. -/
abbrev VBlk := Vec Ideal S1x1x2048 .f32
/-- The encoded batch. -/
abbrev HBlk := Vec Ideal S1024x64 .f32

/-- The distance of a batch row to a key of a block. -/
def dist (x2 : HBlk) (x3 : KBlk) (b : Fin 1024) (r : Fin 2048) : EReal :=
  ((∑ k : Fin 64, (x2 (ix2 b k) : EReal) * x2 (ix2 b k)) + ∑ k : Fin 64, (x3 (ix2 r k) : EReal) * x3 (ix2 r k))
    - Ideal.ofBits .f32 0x40000000#32 * ∑ k : Fin 64, (x2 (ix2 b k) : EReal) * x3 (ix2 r k)

theorem pay123_at (x2 : HBlk) (x3 : KBlk) (b : Fin 1024) (r : Fin 2048) : k1_pay123 (F := Ideal) x2 x3 (ix2 b r) = dist x2 x3 b r := by
  pointwise [k1_pay123, dist]

/-- The kernel's test for a padded key. -/
theorem pay124_at (i : grid1.Coords) (r : Fin 2048) (hi : (i 1).val < 49) : k1_pay124 i (ix2 0 r) = 1#1 ↔ 100000 ≤ 2048 * (i 1).val + r.val := by
  pointwise [k1_pay124]
  generalize (i 1).val = j at *
  have hr := r.isLt
  have e : (IntOp.addi (Scalar.muli (BitVec.ofNat 32 j) 2048#32) (BitVec.ofNat 32 r.val)).toInt = 2048 * j + r.val := by
    have e : IntOp.addi (Scalar.muli (BitVec.ofNat 32 j) 2048#32) (BitVec.ofNat 32 r.val) = BitVec.ofNat 32 (2048 * j + r.val) := by
      apply BitVec.eq_of_toNat_eq
      simp [IntOp.addi, Scalar.muli, IntOp.muli]
      omega
    rw [e, BitVec.toInt_eq_toNat_of_lt (by simp; omega)]
    simp
    omega
  simp only [IntOp.cmpi, BitVec.sle, e]
  rw [ofBool_one]
  simp
  omega

/-- A grid point of the first pass at a row, the least distance so far -/
theorem scan_mn (i : grid1.Coords) (hi : (i 1).val < 49) (x2 : HBlk) (x3 : KBlk) (s : St Ideal) (b : Fin 1024) :
    (stScan i x2 x3 s).mn (ix2 b 0) = min (s.mn (ix2 b 0))
      ((Finset.univ : Finset (Fin 2048)).fold min ⊤ fun r => if 100000 ≤ 2048 * (i 1).val + r.val then big else dist x2 x3 b r) := by
  pointwise [stScan, k1_pay125, big]
  simp only [sel_if, pay124_at _ _ hi, pay123_at, ofBits_inf]
/-- and the greatest. -/
theorem scan_mx (i : grid1.Coords) (hi : (i 1).val < 49) (x2 : HBlk) (x3 : KBlk) (s : St Ideal) (b : Fin 1024) :
    (stScan i x2 x3 s).mx (ix2 b 0) = max (s.mx (ix2 b 0))
      ((Finset.univ : Finset (Fin 2048)).fold max ⊥ fun r => if 100000 ≤ 2048 * (i 1).val + r.val then Ideal.ofBits .f32 0xFF61B1E6#32 else dist x2 x3 b r) := by
  pointwise [stScan, k1_pay126]
  simp only [sel_if, pay124_at _ _ hi, pay123_at, ofBits_ninf]

/-- A counting grid point at a row. -/
theorem count_cnt (x2 : HBlk) (x3 : KBlk) (s : St Ideal) (b : Fin 1024) :
    (stCount x2 x3 s).cnt (ix2 b 0) = s.cnt (ix2 b 0) + ∑ r : Fin 2048, if dist x2 x3 b r ≤ s.tc (ix2 b 0) then 1 else 0 := by
  have h := fun r => pay123_at x2 x3 b r
  pointwise [stCount, k1_pay127]
  simp only [h]

/-- A weight. -/
def wgt (d : EReal) : EReal := Ideal.div 1 (d + milli)

/-- A grid point of the last pass at a row: the weights, -/
theorem last_sw (x2 : HBlk) (x3 : KBlk) (x4 : VBlk) (s : St Ideal) (b : Fin 1024) :
    (stLast x2 x3 x4 s).sw (ix2 b 0) = s.sw (ix2 b 0) + ∑ r : Fin 2048, if dist x2 x3 b r ≤ s.lov (ix2 b 0) then wgt (dist x2 x3 b r) else 0 := by
  have h := fun r => pay123_at x2 x3 b r
  pointwise [stLast, k1_pay36, k1_pay35, k1_pay34, wgt, milli]
  simp only [h]

theorem vals_at (x4 : VBlk) (r : Fin 2048) : vals x4 (ix3 0 0 r) = x4 (ix3 0 0 r) := by
  pointwise [vals]

/-- the weighted values -/
theorem last_swv (x2 : HBlk) (x3 : KBlk) (x4 : VBlk) (s : St Ideal) (b : Fin 1024) :
    (stLast x2 x3 x4 s).swv (ix2 b 0) = s.swv (ix2 b 0) + ∑ r : Fin 2048, if dist x2 x3 b r ≤ s.lov (ix2 b 0) then wgt (dist x2 x3 b r) * x4 (ix3 0 0 r) else 0 := by
  have h := fun r => pay123_at x2 x3 b r
  have h' := fun r => vals_at x4 r
  pointwise [stLast, k1_pay37, k1_pay35, k1_pay34, k1_pay33, wgt, milli]
  simp only [h, h']

/-- A chunk's candidates at a row. -/
def candAt (x2 : HBlk) (x3 : KBlk) (lov hiv : EReal) (b : Fin 1024) (r : Fin 2048) : EReal :=
  if lov < dist x2 x3 b r ∧ dist x2 x3 b r ≤ hiv then dist x2 x3 b r else big

theorem pay40_at (x2 : HBlk) (x3 : KBlk) (lov hiv : Col) (b : Fin 1024) (r : Fin 2048) :
    k1_pay40 (F := Ideal) (k1_pay123 x2 x3) (k1_pay38 (k1_pay123 x2 x3) lov hiv) k1_pay39 (ix2 b r)
      = candAt x2 x3 (lov (ix2 b 0)) (hiv (ix2 b 0)) b r := by
  have h := fun r => pay123_at x2 x3 b r
  pointwise [k1_pay40, k1_pay38, k1_pay39, candAt, big]
  simp only [sel_if, and_one, ofBool_one, h]

theorem pay33_at (x4 : VBlk) (r : Fin 2048) : k1_pay33 (F := Ideal) (vals x4) (ix2 0 r) = x4 (ix3 0 0 r) := by
  have h' := fun r => vals_at x4 r
  pointwise [k1_pay33]
  simp only [h']

/-- and the remainder's list. -/
theorem last_list (x2 : HBlk) (x3 : KBlk) (x4 : VBlk) (s : St Ideal) (b : Fin 1024)
    (M W : ℕ → EReal) (hM : ∀ i < 6, row6 s.mch b i = M i) (hW : ∀ i < 6, row6 s.vch b i = W i) :
    (∀ i < 6, row6 (stLast x2 x3 x4 s).mch b i
      = (rounds big (fun r => x4 (ix3 0 0 r)) 6 (candAt x2 x3 (s.lov (ix2 b 0)) (s.hiv (ix2 b 0)) b, M, W)).2.1 i) ∧
    (∀ i < 6, row6 (stLast x2 x3 x4 s).vch b i
      = (rounds big (fun r => x4 (ix3 0 0 r)) 6 (candAt x2 x3 (s.lov (ix2 b 0)) (s.hiv (ix2 b 0)) b, M, W)).2.2 i) := by
  have h := rRounds_at (k1_pay33 (F := Ideal) (vals x4)) (k1_pay40 (F := Ideal) (k1_pay123 x2 x3) (k1_pay38 (k1_pay123 x2 x3) s.lov s.hiv) k1_pay39)
    s.mch s.vch b 6 M W hM hW
  simp only [pay33_at, pay40_at] at h
  refine ⟨fun i hi => ?_, fun i hi => ?_⟩
  · rw [← h.2.1 i hi]; simp only [stLast]; rw [chainM_eq]
  · rw [← h.2.2 i hi]; simp only [stLast]; rw [chainV_eq]

/-- The last pass starts empty at every row. -/
theorem reset_at (s : St Ideal) (b : Fin 1024) : (stReset s).sw (ix2 b 0) = 0 ∧ (stReset s).swv (ix2 b 0) = 0 ∧
    (∀ i < 6, row6 (stReset s).mch b i = big) ∧ ∀ i < 6, row6 (stReset s).vch b i = 0 := by
  refine ⟨?_, ?_, fun i hi => ?_, fun i hi => ?_⟩
  · pointwise [stReset, k1_pay119]
  · pointwise [stReset, k1_pay120]
  · rw [row6, dif_pos hi]; pointwise [stReset, k1_pay121, big]
  · rw [row6, dif_pos hi]; pointwise [stReset, k1_pay122]

/-- The first pass starts from the greatest and the least starting values. -/
theorem first_at (s : St Ideal) (b : Fin 1024) : (stFirst s).mn (ix2 b 0) = big ∧ (stFirst s).mx (ix2 b 0) = Ideal.ofBits .f32 0xFF61B1E6#32 := by
  constructor
  · pointwise [stFirst, k1_pay107, big]
  · pointwise [stFirst, k1_pay108]

/-- The search's ends for a row's extremes. -/
def lo0 (mn : EReal) : EReal := mn - (max mn (-mn) * Ideal.ofBits .f32 0x358637BD#32 + milli)
/-- The upper one. -/
def hi0 (mx : EReal) : EReal := mx + (max mx (-mx) * Ideal.ofBits .f32 0x358637BD#32 + milli)

/-- The search starts from the extremes. -/
theorem start_at (s : St Ideal) (b : Fin 1024) :
    srchAt (stStart s) b = Srch.start (lo0 (s.mn (ix2 b 0))) (hi0 (s.mx (ix2 b 0))) ∧ (stStart s).cnt (ix2 b 0) = 0 ∧
    (stStart s).clo (ix2 b 0) = 0 ∧ (stStart s).lov (ix2 b 0) = lo0 (s.mn (ix2 b 0)) ∧
    (stStart s).hiv (ix2 b 0) = hi0 (s.mx (ix2 b 0)) ∧ (stStart s).hav (ix2 b 0) = 0 := by
  refine ⟨?_, ?_, ?_, ?_, ?_, ?_⟩
  · have h1 : k1_pay6 (F := Ideal) s.mn s.mn (ix2 b 0) = lo0 (s.mn (ix2 b 0)) := by pointwise [k1_pay6, lo0, milli]; rfl
    have h2 : k1_pay7 (F := Ideal) s.mx s.mx (ix2 b 0) = hi0 (s.mx (ix2 b 0)) := by pointwise [k1_pay7, hi0, milli]; rfl
    have h3 : ∀ i, k1_pay12 (F := Ideal) i = 0 := fun i => by pointwise [k1_pay12]
    have e1 : (stStart s).lo (ix2 b 0) = lo0 (s.mn (ix2 b 0)) := by pointwise [stStart, k1_pay8]; exact h1
    have e2 : (stStart s).hi (ix2 b 0) = hi0 (s.mx (ix2 b 0)) := by pointwise [stStart, k1_pay9]; exact h2
    have e3 : (stStart s).flo (ix2 b 0) = Ideal.ofBits .f32 0xC07668D1#32 := by pointwise [stStart, k1_pay10]
    have e4 : (stStart s).fhi (ix2 b 0) = Ideal.ofBits .f32 0x40F5358F#32 := by pointwise [stStart, k1_pay11]
    have e5 : (stStart s).sd (ix2 b 0) = 0 := by pointwise [stStart, k1_pay109]; exact h3 _
    have e6 : (stStart s).tc (ix2 b 0) = lo0 (s.mn (ix2 b 0)) + Ideal.ofBits .f32 0x3DCCCCCD#32 * (hi0 (s.mx (ix2 b 0)) - lo0 (s.mn (ix2 b 0))) := by
      pointwise [stStart, k1_pay114]; rw [h1, h2]
    unfold srchAt Srch.start
    rw [e1, e2, e3, e4, e5, e6]
  · pointwise [stStart, k1_pay118]
  · pointwise [stStart, k1_pay110]
  · pointwise [stStart, k1_pay111, k1_pay6, lo0, milli]; rfl
  · pointwise [stStart, k1_pay112, k1_pay7, hi0, milli]; rfl
  · pointwise [stStart, k1_pay113]

open Classical in
/-- The row of the result. -/
theorem out_at (s : St Ideal) (b : Fin 1024) (use : ℕ → Prop)
    (hu : ∀ i < 6, use i ↔ ((i + 1 : ℕ) : EReal) ≤ Ideal.ofBits .f32 0x42480000#32 - s.clo (ix2 b 0) ∧ row6 s.mch b i < big) :
    stOut s (ix2 b 0) = Ideal.div
      (s.swv (ix2 b 0) + ∑ i ∈ Finset.range 6, if use i then wgt (row6 s.mch b i) * row6 s.vch b i else 0)
      (s.sw (ix2 b 0) + ∑ i ∈ Finset.range 6, if use i then wgt (row6 s.mch b i) else 0) := by
  have n2 : Ideal.ofBits .f32 0x40000000#32 = ((1 + 1 : ℕ) : EReal) := by simp [Ideal.ofBits, Ideal.ieee]; first | (norm_num; done) | exact congrArg Real.toEReal (by norm_num)
  have n3 : Ideal.ofBits .f32 0x40400000#32 = ((2 + 1 : ℕ) : EReal) := by simp [Ideal.ofBits, Ideal.ieee]; first | (norm_num; done) | exact congrArg Real.toEReal (by norm_num)
  have n4 : Ideal.ofBits .f32 0x40800000#32 = ((3 + 1 : ℕ) : EReal) := by simp [Ideal.ofBits, Ideal.ieee]; first | (norm_num; done) | exact congrArg Real.toEReal (by norm_num)
  have n5 : Ideal.ofBits .f32 0x40A00000#32 = ((4 + 1 : ℕ) : EReal) := by simp [Ideal.ofBits, Ideal.ieee]; first | (norm_num; done) | exact congrArg Real.toEReal (by norm_num)
  have n6 : Ideal.ofBits .f32 0x40C00000#32 = ((5 + 1 : ℕ) : EReal) := by simp [Ideal.ofBits, Ideal.ieee]; first | (norm_num; done) | exact congrArg Real.toEReal (by norm_num)
  have n1 : (1 : EReal) = ((0 + 1 : ℕ) : EReal) := by simp
  have q : ∀ (i : ℕ) (h : i < 6), (((i + 1 : ℕ) : EReal) ≤ Ideal.ofBits .f32 0x42480000#32 - s.clo (ix2 b 0) ∧ s.mch (ix2 b ⟨i, h⟩) < Ideal.ofBits .f32 0x7F61B1E6#32) = use i :=
    fun i h => by
      have e := hu i h
      rw [row6, dif_pos h] at e
      exact (propext e).symm
  have q0 : ((1 : EReal) ≤ Ideal.ofBits .f32 0x42480000#32 - s.clo (ix2 b 0) ∧ s.mch (ix2 b 0) < Ideal.ofBits .f32 0x7F61B1E6#32) = use 0 := by rw [n1]; exact q 0 _
  have q1 : (((2 : ℕ) : EReal) ≤ Ideal.ofBits .f32 0x42480000#32 - s.clo (ix2 b 0) ∧ s.mch (ix2 b 1) < Ideal.ofBits .f32 0x7F61B1E6#32) = use 1 := q 1 (by omega)
  have q2 : (((3 : ℕ) : EReal) ≤ Ideal.ofBits .f32 0x42480000#32 - s.clo (ix2 b 0) ∧ s.mch (ix2 b 2) < Ideal.ofBits .f32 0x7F61B1E6#32) = use 2 := q 2 (by omega)
  have q3 : (((4 : ℕ) : EReal) ≤ Ideal.ofBits .f32 0x42480000#32 - s.clo (ix2 b 0) ∧ s.mch (ix2 b 3) < Ideal.ofBits .f32 0x7F61B1E6#32) = use 3 := q 3 (by omega)
  have q4 : (((5 : ℕ) : EReal) ≤ Ideal.ofBits .f32 0x42480000#32 - s.clo (ix2 b 0) ∧ s.mch (ix2 b 4) < Ideal.ofBits .f32 0x7F61B1E6#32) = use 4 := q 4 (by omega)
  have q5 : (((6 : ℕ) : EReal) ≤ Ideal.ofBits .f32 0x42480000#32 - s.clo (ix2 b 0) ∧ s.mch (ix2 b 5) < Ideal.ofBits .f32 0x7F61B1E6#32) = use 5 := q 5 (by omega)
  clear q hu
  simp only [Nat.reduceAdd] at n2 n3 n4 n5 n6
  simp only [Finset.sum_range_succ, Finset.sum_range_zero, zero_add]
  pointwise [stOut, k1_pay5, k1_pay85, k1_pay86, k1_pay87, k1_pay88, k1_pay89, k1_pay90, k1_pay91, k1_pay92, k1_pay93, k1_pay94, k1_pay95, k1_pay96,
    k1_pay97, k1_pay98, k1_pay99, k1_pay100, k1_pay101, k1_pay102, k1_pay103, k1_pay104, k1_pay105, k1_pay106]
  simp only [sel_if, and_one, ofBool_one]
  simp only [n2, n3, n4, n5, n6, q0, q1, q2, q3, q4, q5, wgt, milli, zero_add]
  simp only [row6, show (0:ℕ) < 6 by omega, show (1:ℕ) < 6 by omega, show (2:ℕ) < 6 by omega, show (3:ℕ) < 6 by omega, show (4:ℕ) < 6 by omega, show (5:ℕ) < 6 by omega, dif_pos]
  rfl

end Cert.Knn
-- ==== Proof.Plain.lean ====
/-
  The lookup call's passes at a row as functions of plain numbers: the search over nine counts, what it keeps, a chunk's
  candidates and the remainder's list.
-/
module

public import proofs.«01_k».proof.Proof.StateAt

@[expose] public section

set_option maxRecDepth 16384

noncomputable section

namespace Cert.Knn

open Cert.KernelIdeal Cert.KernelIdeal.Gen
open Idealize.ShloMosaic Idealize.ShloMosaic.TcCoe

/-- The least starting value's word. -/
abbrev nbig : EReal := Ideal.ofBits .f32 0xFF61B1E6#32

/-! ## Chunks -/

theorem forall_chunk (P : ℕ → Prop) (j : ℕ) :
    (∀ n < 2048 * (j + 1), P n) ↔ (∀ n < 2048 * j, P n) ∧ ∀ r : Fin 2048, P (2048 * j + r.val) := by
  constructor
  · intro h
    exact ⟨fun n hn => h n (by omega), fun r => h _ (by have := r.isLt; omega)⟩
  · intro ⟨h1, h2⟩ n hn
    by_cases hl : n < 2048 * j
    · exact h1 n hl
    · have := h2 ⟨n - 2048 * j, by omega⟩
      rwa [show 2048 * j + (n - 2048 * j) = n by omega] at this

theorem sum_chunk (f : ℕ → EReal) (j : ℕ) :
    ∑ n ∈ Finset.range (2048 * (j + 1)), f n = ∑ n ∈ Finset.range (2048 * j), f n + ∑ r : Fin 2048, f (2048 * j + r.val) := by
  rw [show 2048 * (j + 1) = 2048 * j + 2048 by ring, Finset.sum_range_add, Finset.sum_range (fun x => f (2048 * j + x))]

/-! ## The passes on plain numbers -/

/-- What the search keeps: the count and the threshold below, the threshold above, whether there is one. -/
structure Kept where
  /-- count at most the kept threshold -/
  clo : EReal
  /-- kept threshold -/
  lov : EReal
  /-- upper threshold -/
  hiv : EReal
  /-- whether a threshold is kept -/
  hav : EReal

open Classical in
/-- What is kept after a count `c` of a threshold `t`. -/
def Kept.step (k : Kept) (c t : EReal) : Kept :=
  ⟨if okCount c ∧ (k.hav = 0 ∨ k.lov < t) then c else k.clo, if okCount c ∧ (k.hav = 0 ∨ k.lov < t) then t else k.lov,
    if Ideal.ofBits .f32 0x42480000#32 ≤ c ∧ t < k.hiv then t else k.hiv, max k.hav (if okCount c then 1 else 0)⟩

/-- How many of a row's distances, padding included, are at most `t`. -/
def cntAll (D : ℕ → EReal) (t : EReal) : EReal := ∑ n ∈ Finset.range 100352, if D n ≤ t then 1 else 0

/-- The search and what it keeps, after `p` counts, from the extremes. -/
def searchRun (D : ℕ → EReal) (mn mx : EReal) : ℕ → Srch × Kept
  | 0 => (Srch.start (lo0 mn) (hi0 mx), ⟨0, lo0 mn, hi0 mx, 0⟩)
  | p + 1 => ((searchRun D mn mx p).1.step (cntAll D (searchRun D mn mx p).1.t),
      (searchRun D mn mx p).2.step (cntAll D (searchRun D mn mx p).1.t) (searchRun D mn mx p).1.t)

theorem searchRun_succ (D : ℕ → EReal) (mn mx : EReal) (p : ℕ) : searchRun D mn mx (p + 1) =
    ((searchRun D mn mx p).1.step (cntAll D (searchRun D mn mx p).1.t),
      (searchRun D mn mx p).2.step (cntAll D (searchRun D mn mx p).1.t) (searchRun D mn mx p).1.t) := rfl

/-- A chunk's candidates. -/
def candOf (D : ℕ → EReal) (lov hiv : EReal) (j : ℕ) (r : Fin 2048) : EReal :=
  if lov < D (2048 * j + r.val) ∧ D (2048 * j + r.val) ≤ hiv then D (2048 * j + r.val) else big

/-- The remainder's list after `j` chunks. -/
def lists (D W : ℕ → EReal) (lov hiv : EReal) : ℕ → (ℕ → EReal) × (ℕ → EReal)
  | 0 => (fun _ => big, fun _ => 0)
  | j + 1 => (rounds big (fun r : Fin 2048 => W (2048 * j + r.val)) 6
      (candOf D lov hiv j, (lists D W lov hiv j).1, (lists D W lov hiv j).2)).2

end Cert.Knn
-- ==== Proof.RowMath.lean ====
/-
  The lookup at a row, as mathematics: the threshold search keeps a threshold with 44 to 49 of the distances at most it, the
  remainder's list then holds the rest of the fifty least, so the result is the weighted mean over the fifty least.
-/
module

public import proofs.«01_k».proof.Proof.Plain

@[expose] public section

set_option maxRecDepth 16384

noncomputable section

namespace Cert.Knn

open Idealize.ShloMosaic

/-! ## The kernel's constants as real numbers -/

theorem word_half : half = ((1 / 2 : ℝ) : EReal) := by
  unfold half
  simp [Ideal.ofBits, Ideal.ieee] <;> first | (norm_num; done) | exact congrArg Real.toEReal (by norm_num)
theorem word_milli : milli = ((8589935 / 2 ^ 33 : ℝ) : EReal) := by
  unfold milli
  simp [Ideal.ofBits, Ideal.ieee] <;> first | (norm_num; done) | exact congrArg Real.toEReal (by norm_num)
theorem word_tenth : Ideal.ofBits .f32 0x3DCCCCCD#32 = ((13421773 / 2 ^ 27 : ℝ) : EReal) := by
  simp [Ideal.ofBits, Ideal.ieee] <;> first | (norm_num; done) | exact congrArg Real.toEReal (by norm_num)
theorem word_ppm : Ideal.ofBits .f32 0x358637BD#32 = ((8796093 / 2 ^ 43 : ℝ) : EReal) := by
  simp [Ideal.ofBits, Ideal.ieee] <;> first | (norm_num; done) | exact congrArg Real.toEReal (by norm_num)
theorem word_big : big = ((14791142 * 2 ^ 104 : ℝ) : EReal) := by
  unfold big
  simp [Ideal.ofBits, Ideal.ieee] <;> first | (norm_num; done) | exact congrArg Real.toEReal (by norm_num)
theorem word_nbig : nbig = ((-(14791142 * 2 ^ 104) : ℝ) : EReal) := by
  unfold nbig
  simp [Ideal.ofBits, Ideal.ieee] <;> first | (norm_num; done) | exact congrArg Real.toEReal (by norm_num)
theorem word_44 : Ideal.ofBits .f32 0x42300000#32 = ((44 : ℕ) : EReal) := by
  simp [Ideal.ofBits, Ideal.ieee] <;> first | (norm_num; done) | exact congrArg Real.toEReal (by norm_num)
theorem word_49 : Ideal.ofBits .f32 0x42440000#32 = ((49 : ℕ) : EReal) := by
  simp [Ideal.ofBits, Ideal.ieee] <;> first | (norm_num; done) | exact congrArg Real.toEReal (by norm_num)
theorem word_50 : Ideal.ofBits .f32 0x42480000#32 = ((50 : ℕ) : EReal) := by
  simp [Ideal.ofBits, Ideal.ieee] <;> first | (norm_num; done) | exact congrArg Real.toEReal (by norm_num)

/-- A number between two reals is real. -/
theorem real_between {l h : ℝ} {x : EReal} (h1 : (l : EReal) ≤ x) (h2 : x ≤ (h : EReal)) : ∃ t : ℝ, x = t ∧ l ≤ t ∧ t ≤ h := by
  induction x with
  | bot => exact absurd h1 (not_le.2 (EReal.bot_lt_coe l))
  | top => exact absurd h2 (not_le.2 (EReal.coe_lt_top h))
  | coe t => exact ⟨t, rfl, EReal.coe_le_coe_iff.1 h1, EReal.coe_le_coe_iff.1 h2⟩

/-! ## The search stays between its first ends -/

/-- The bracket and the threshold are real, in order, between `a` and `z`. -/
def Srch.Ok (s : Srch) (a z : ℝ) : Prop := ∃ l t h : ℝ, s.lo = l ∧ s.t = t ∧ s.hi = h ∧ a ≤ l ∧ l ≤ t ∧ t ≤ h ∧ h ≤ z

theorem next_between (l h : ℝ) (hl : l ≤ h) (f g : EReal) : ∃ t : ℝ, Srch.next l h f g = t ∧ l ≤ t ∧ t ≤ h := by
  unfold Srch.next
  split
  · refine ⟨1 / 2 * (l + h), ?_, by linarith, by linarith⟩
    rw [word_half]; norm_cast
  · have hm : (0 : ℝ) ≤ 8589935 / 2 ^ 33 * (h - l) := mul_nonneg (by norm_num) (by linarith)
    have hm' : (8589935 / 2 ^ 33 : ℝ) * (h - l) ≤ h - l := by
      have : (8589935 / 2 ^ 33 : ℝ) ≤ 1 := by norm_num
      nlinarith
    have e : milli * ((h : EReal) - l) = ((8589935 / 2 ^ 33 * (h - l) : ℝ) : EReal) := by rw [word_milli]; norm_cast
    rw [e]
    apply real_between
    · refine le_min ?_ (le_trans ?_ (le_max_left _ _))
      · rw [← EReal.coe_sub, EReal.coe_le_coe_iff]; linarith
      · rw [← EReal.coe_add, EReal.coe_le_coe_iff]; linarith
    · refine (min_le_left _ _).trans ?_
      rw [← EReal.coe_sub, EReal.coe_le_coe_iff]; linarith

theorem Srch.Ok.step {s : Srch} {a z : ℝ} (h : s.Ok a z) (c : EReal) : (s.step c).Ok a z := by
  obtain ⟨l, t, u, e1, e2, e3, i1, i2, i3, i4⟩ := h
  unfold Srch.step
  have hlo : ∃ l' : ℝ, s.nlo c = l' ∧ a ≤ l' ∧ ∃ u' : ℝ, s.nhi c = u' ∧ u' ≤ z ∧ l' ≤ u' := by
    unfold Srch.nlo Srch.nhi
    split
    · exact ⟨l, e1, i1, t, e2, by linarith, i2⟩
    · exact ⟨t, e2, by linarith, u, e3, i4, i3⟩
  obtain ⟨l', f1, f2, u', f3, f4, f5⟩ := hlo
  obtain ⟨t', g1, g2, g3⟩ := next_between l' u' f5 (s.nflo c) (s.nfhi c)
  exact ⟨l', t', u', f1, by rw [f1, f3]; exact g1, f3, f2, g2, g3, f4⟩

theorem start_ok {a z : ℝ} (h : a ≤ z) : (Srch.start a z).Ok a z := by
  have hm : (0 : ℝ) ≤ 13421773 / 2 ^ 27 * (z - a) := mul_nonneg (by norm_num) (by linarith)
  have hm' : (13421773 / 2 ^ 27 : ℝ) * (z - a) ≤ z - a := by
    have : (13421773 / 2 ^ 27 : ℝ) ≤ 1 := by norm_num
    nlinarith
  refine ⟨a, a + 13421773 / 2 ^ 27 * (z - a), z, rfl, ?_, rfl, le_rfl, by linarith, by linarith, le_rfl⟩
  show (a : EReal) + Ideal.ofBits .f32 0x3DCCCCCD#32 * ((z : EReal) - a) = _
  rw [word_tenth]; norm_cast

/-! ## A row's data -/

/-- What is known of a row: its distances are nonnegative reals, not too large, the padding's are huge, and `G` is the set of
    the fifty least, each below every other key's, no two the same. -/
structure Fifty (D : ℕ → EReal) (G : Finset ℕ) : Prop where
  /-- the keys' distances -/
  real : ∀ n < 100000, ∃ d : ℝ, D n = d ∧ 0 ≤ d ∧ d ≤ 10 ^ 15
  /-- the padding's -/
  pad : ∀ n, 100000 ≤ n → n < 100352 → ((10 ^ 30 : ℝ) : EReal) ≤ D n
  /-- `G` is made of keys -/
  sub : ∀ n ∈ G, n < 100000
  /-- fifty of them -/
  card : G.card = 50
  /-- the least ones -/
  out : ∀ i ∈ G, ∀ j < 100000, j ∉ G → D i < D j
  /-- all different -/
  inj : Set.InjOn D G

/-- `mn` and `mx` are the row's extremes. -/
structure Ext (D : ℕ → EReal) (mn mx : EReal) : Prop where
  /-- the least -/
  mn : ∀ x, x ≤ mn ↔ x ≤ big ∧ ∀ n < 100000, x ≤ D n
  /-- the greatest -/
  mx : ∀ x, mx ≤ x ↔ nbig ≤ x ∧ ∀ n < 100000, D n ≤ x

variable {D W : ℕ → EReal} {G : Finset ℕ} {mn mx : EReal}

theorem Fifty.lt_big (h : Fifty D G) {n : ℕ} (hn : n < 100000) : D n < big := by
  obtain ⟨d, e, -, h2⟩ := h.real n hn
  rw [e, word_big, EReal.coe_lt_coe_iff]
  refine lt_of_le_of_lt h2 (by norm_num)

/-- The search's first ends are real, and around every distance. -/
theorem ends (h : Fifty D G) (x : Ext D mn mx) : ∃ a z : ℝ, lo0 mn = a ∧ hi0 mx = z ∧ a ≤ z ∧ z < 10 ^ 30 ∧ ∀ n < 100000, D n ≤ (z : EReal) := by
  have m1 : ((0 : ℝ) : EReal) ≤ mn := by
    rw [x.mn, word_big]
    refine ⟨EReal.coe_le_coe_iff.2 (by norm_num), fun n hn => ?_⟩
    obtain ⟨d, e, h1, -⟩ := h.real n hn
    rw [e]; exact EReal.coe_le_coe_iff.2 h1
  have m2 : ∀ n < 100000, mn ≤ D n := ((x.mn mn).1 le_rfl).2
  have m3 : ∀ n < 100000, D n ≤ mx := ((x.mx mx).1 le_rfl).2
  have m4 : mx ≤ ((10 ^ 15 : ℝ) : EReal) := by
    rw [x.mx, word_nbig]
    refine ⟨EReal.coe_le_coe_iff.2 (by norm_num), fun n hn => ?_⟩
    obtain ⟨d, e, -, h2⟩ := h.real n hn
    rw [e]; exact EReal.coe_le_coe_iff.2 h2
  have m5 : mn ≤ mx := (m2 0 (by norm_num)).trans (m3 0 (by norm_num))
  obtain ⟨p, ep, p1, p2⟩ := real_between m1 (m5.trans m4)
  obtain ⟨q, eq, q1, q2⟩ := real_between (m1.trans m5) m4
  have hpq : p ≤ q := by rw [ep, eq] at m5; exact EReal.coe_le_coe_iff.1 m5
  refine ⟨p - (p * (8796093 / 2 ^ 43) + 8589935 / 2 ^ 33), q + (q * (8796093 / 2 ^ 43) + 8589935 / 2 ^ 33), ?_, ?_, ?_, ?_, fun n hn => ?_⟩
  · have hmax : max mn (-mn) = mn := by
      rw [ep, max_eq_left]; rw [← EReal.coe_neg, EReal.coe_le_coe_iff]; linarith
    unfold lo0; rw [hmax, ep, word_ppm, word_milli]; norm_cast
  · have hmax : max mx (-mx) = mx := by
      rw [eq, max_eq_left]; rw [← EReal.coe_neg, EReal.coe_le_coe_iff]; linarith
    unfold hi0; rw [hmax, eq, word_ppm, word_milli]; norm_cast
  · have := mul_nonneg p1 (by norm_num : (0 : ℝ) ≤ 8796093 / 2 ^ 43)
    have := mul_nonneg q1 (by norm_num : (0 : ℝ) ≤ 8796093 / 2 ^ 43)
    norm_num at *; linarith
  · have : q * (8796093 / 2 ^ 43) ≤ q := by nlinarith
    norm_num at *; linarith
  · refine (m3 n hn).trans ?_
    rw [eq, EReal.coe_le_coe_iff]
    have := mul_nonneg q1 (by norm_num : (0 : ℝ) ≤ 8796093 / 2 ^ 43)
    norm_num at *; linarith

/-- The keys at most a threshold. -/
def below (D : ℕ → EReal) (t : EReal) : Finset ℕ := (Finset.range 100000).filter fun n => D n ≤ t

/-- Below the padding, filtering all rows is filtering the keys. -/
theorem filter_all (h : Fifty D G) {z : ℝ} (hz : z < 10 ^ 30) {t : EReal} (ht : t ≤ (z : EReal)) :
    (Finset.range 100352).filter (fun n => D n ≤ t) = below D t := by
  ext n
  simp only [below, Finset.mem_filter, Finset.mem_range]
  constructor
  · rintro ⟨h1, h2⟩
    refine ⟨?_, h2⟩
    by_contra hn
    have := h.pad n (not_lt.1 hn) h1
    have hh := (this.trans h2).trans ht
    rw [EReal.coe_le_coe_iff] at hh
    linarith
  · rintro ⟨h1, h2⟩
    exact ⟨by omega, h2⟩

/-- The count of a threshold below the padding is the number of keys at most it. -/
theorem cntAll_eq (h : Fifty D G) {z : ℝ} (hz : z < 10 ^ 30) {t : EReal} (ht : t ≤ (z : EReal)) :
    cntAll D t = ((below D t).card : EReal) := by
  unfold cntAll
  rw [← Finset.sum_filter, filter_all h hz ht, Finset.sum_const, EReal.nsmul_eq_mul, mul_one]

theorem run_ok (h : Fifty D G) {a z : ℝ} (ha : lo0 mn = a) (hz : hi0 mx = z) (haz : a ≤ z) (p : ℕ) : (searchRun D mn mx p).1.Ok a z := by
  induction p with
  | zero => rw [searchRun, ha, hz]; exact start_ok haz
  | succ p ih => rw [searchRun]; exact ih.step _

theorem run_t_le (h : Fifty D G) {a z : ℝ} (ha : lo0 mn = a) (hz : hi0 mx = z) (haz : a ≤ z) (p : ℕ) : (searchRun D mn mx p).1.t ≤ (z : EReal) := by
  obtain ⟨l, t, u, -, e2, -, -, -, i3, i4⟩ := run_ok (D := D) h ha hz haz p
  rw [e2, EReal.coe_le_coe_iff]; linarith

/-- What the search keeps: a threshold whose count was accepted, if there was one, and an upper one with at least fifty. -/
theorem run_kept (h : Fifty D G) {a z : ℝ} (ha : lo0 mn = a) (hz : hi0 mx = z) (haz : a ≤ z) (hzz : z < 10 ^ 30)
    (hall : ∀ n < 100000, D n ≤ (z : EReal)) (p : ℕ) :
    let k := (searchRun D mn mx p).2
    ((k.hav = 0 ∧ ∀ q < p, ¬ okCount (cntAll D (searchRun D mn mx q).1.t)) ∨
      (k.hav = 1 ∧ okCount k.clo ∧ k.clo = cntAll D k.lov ∧ k.lov ≤ (z : EReal))) ∧
    k.hiv ≤ (z : EReal) ∧ ((50 : ℕ) : EReal) ≤ cntAll D k.hiv := by
  induction p with
  | zero =>
    refine ⟨.inl ⟨rfl, fun q hq => absurd hq (Nat.not_lt_zero q)⟩, ?_, ?_⟩
    · show hi0 mx ≤ _
      rw [hz]
    · show _ ≤ cntAll D (hi0 mx)
      rw [hz, cntAll_eq h hzz le_rfl]
      have : below D (z : EReal) = Finset.range 100000 := by
        unfold below
        exact Finset.filter_true_of_mem fun n hn => hall n (Finset.mem_range.1 hn)
      rw [this, Finset.card_range]
      exact_mod_cast (by norm_num : 50 ≤ 100000)
  | succ p ih =>
    obtain ⟨i1, i2, i3⟩ := ih
    have ht := run_t_le (D := D) h ha hz haz p
    rw [searchRun]
    dsimp only
    generalize hk : (searchRun D mn mx p).2 = k at *
    generalize hs : (searchRun D mn mx p).1.t = t at *
    unfold Kept.step
    dsimp only
    refine ⟨?_, ?_, ?_⟩
    · by_cases hc : okCount (cntAll D t)
      · right
        rcases i1 with ⟨j1, -⟩ | ⟨j1, j2, j3, j4⟩
        · simp only [hc, j1, true_or, and_self, if_true]
          exact ⟨by simp, trivial, trivial, ht⟩
        · simp only [hc, j1, one_ne_zero, false_or, true_and, if_true, max_self]
          split
          · exact ⟨hc, rfl, ht⟩
          · exact ⟨j2, j3, j4⟩
      · simp only [hc, false_and, if_false]
        rcases i1 with ⟨j1, j2⟩ | ⟨j1, j2, j3, j4⟩
        · left
          refine ⟨by rw [j1]; simp, fun q hq => ?_⟩
          rcases Nat.lt_succ_iff_lt_or_eq.1 hq with hq | rfl
          · exact j2 q hq
          · rw [hs]; exact hc
        · right
          exact ⟨by rw [j1]; simp, j2, j3, j4⟩
    · split
      · exact ht
      · exact i2
    · split
      · rename_i hc
        rw [word_50] at hc
        exact hc.1
      · exact i3

/-- The rest of the fifty least, above the kept threshold. -/
def restOf (D : ℕ → EReal) (G : Finset ℕ) (lov : EReal) : Finset ℕ := G.filter fun n => lov < D n

section
variable {z : ℝ} {lov hiv : EReal}

theorem below_sub (h : Fifty D G) (hc : (below D lov).card ≤ 49) : below D lov ⊆ G := by
  intro j hj
  by_contra hjG
  have hj' := hj
  rw [below, Finset.mem_filter, Finset.mem_range] at hj'
  have : G ⊆ below D lov := by
    intro i hi
    rw [below, Finset.mem_filter, Finset.mem_range]
    exact ⟨h.sub i hi, (h.out i hi j hj'.1 hjG).le.trans hj'.2⟩
  have := Finset.card_le_card this
  rw [h.card] at this
  omega

theorem le_hiv (h : Fifty D G) (hc : 50 ≤ (below D hiv).card) {i : ℕ} (hi : i ∈ G) : D i ≤ hiv := by
  by_contra hn
  rw [not_le] at hn
  have : below D hiv ⊆ G.erase i := by
    intro j hj
    rw [below, Finset.mem_filter, Finset.mem_range] at hj
    have hlt : D j < D i := lt_of_le_of_lt hj.2 hn
    rw [Finset.mem_erase]
    refine ⟨fun e => by rw [e] at hlt; exact lt_irrefl _ hlt, ?_⟩
    by_contra hjG
    exact lt_asymm hlt (h.out i hi j hj.1 hjG)
  have := Finset.card_le_card this
  rw [Finset.card_erase_of_mem hi, h.card] at this
  omega

/-- The remainder's list after some chunks holds the rest found in them. -/
theorem lists_inv (h : Fifty D G) (hz : z < 10 ^ 30) (hiz : hiv ≤ (z : EReal)) (hi : ∀ i ∈ G, D i ≤ hiv)
    (h6 : (restOf D G lov).card ≤ 6) : ∀ j, j ≤ 49 →
    Inv D W (restOf D G lov) ((restOf D G lov).filter fun n => n < 2048 * j) (lists D W lov hiv j).1 (lists D W lov hiv j).2 := by
  have hT : ∀ a ∈ restOf D G lov, a ∈ G ∧ lov < D a := fun a ha => Finset.mem_filter.1 ha
  have hB : ∀ a ∈ restOf D G lov, D a < big := fun a ha => h.lt_big (h.sub a (hT a ha).1)
  intro j
  induction j with
  | zero =>
    intro _
    have : (restOf D G lov).filter (fun n => n < 2048 * 0) = ∅ := Finset.filter_false_of_mem fun n _ => by omega
    rw [this]
    exact ⟨Finset.empty_subset _, fun i _ hc => absurd hc (by simp), fun i _ _ a ha => hB a ha⟩
  | succ j ih =>
    intro hj
    have inj : Function.Injective fun r : Fin 2048 => 2048 * j + r.val := fun r r' e => Fin.ext (Nat.add_left_cancel e)
    have key := rounds_all (D := D) (V := W) (G := restOf D G lov) (h.inj.mono fun a ha => (hT a ha).1) inj
      (R := Finset.univ.filter fun r : Fin 2048 => 2048 * j + r.val ∈ restOf D G lov) (c := candOf D lov hiv j)
      (w := fun r : Fin 2048 => W (2048 * j + r.val)) (B := big) hB (fun _ => rfl) (ih (by omega))
      ⟨fun r hr => (Finset.mem_filter.1 hr).2, fun r hr => ?_, fun r hr a ha => ?_⟩
      (fun r _ hr => by have := (Finset.mem_filter.1 hr).2; omega) 6 ?_
    · rw [lists]
      have e : (restOf D G lov).filter (fun n => n < 2048 * (j + 1)) = (restOf D G lov).filter (fun n => n < 2048 * j)
          ∪ (Finset.univ.filter fun r : Fin 2048 => 2048 * j + r.val ∈ restOf D G lov).image fun r : Fin 2048 => 2048 * j + r.val := by
        ext n
        simp only [Finset.mem_union, Finset.mem_filter, Finset.mem_image, Finset.mem_univ, true_and]
        constructor
        · rintro ⟨h1, h2⟩
          by_cases hn : n < 2048 * j
          · exact .inl ⟨h1, hn⟩
          · refine .inr ⟨⟨n - 2048 * j, by omega⟩, ?_, ?_⟩
            · show 2048 * j + (n - 2048 * j) ∈ _
              rwa [show 2048 * j + (n - 2048 * j) = n by omega]
            · show 2048 * j + (n - 2048 * j) = n
              omega
        · rintro (⟨h1, h2⟩ | ⟨r, h1, rfl⟩)
          · exact ⟨h1, by omega⟩
          · exact ⟨h1, by have := r.isLt; omega⟩
      rw [e]
      exact key
    · have q := hT _ (Finset.mem_filter.1 hr).2
      exact if_pos ⟨q.2, hi _ q.1⟩
    · unfold candOf
      split
      · rename_i hc
        have hn : 2048 * j + r.val < 100000 := by
          by_contra hn
          have := (h.pad _ (not_lt.1 hn) (by have := r.isLt; omega)).trans (hc.2.trans hiz)
          rw [EReal.coe_le_coe_iff] at this
          linarith
        refine h.out a (hT a ha).1 _ hn fun hG => hr ?_
        exact Finset.mem_filter.2 ⟨Finset.mem_univ _, Finset.mem_filter.2 ⟨hG, hc.1⟩⟩
      · exact hB a ha
    · refine le_trans ?_ h6
      rw [← Finset.card_image_of_injective _ inj]
      refine Finset.card_le_card fun n hn => ?_
      obtain ⟨r, hr, rfl⟩ := Finset.mem_image.1 hn
      exact (Finset.mem_filter.1 hr).2
end

/-- **The lookup's row is the weighted mean over the fifty least distances.** -/
theorem row_value (h : Fifty D G) (x : Ext D mn mx) (hf : ∃ p < 9, okCount (cntAll D (searchRun D mn mx p).1.t)) {R : EReal}
    (hR : let k := (searchRun D mn mx 9).2
      let l := lists D W k.lov k.hiv 49
      ∀ use : ℕ → Prop, (∀ i < 6, use i ↔ ((i + 1 : ℕ) : EReal) ≤ Ideal.ofBits .f32 0x42480000#32 - k.clo ∧ l.1 i < big) →
      ∀ [DecidablePred use], R = Ideal.div
        ((∑ n ∈ Finset.range 100352, if D n ≤ k.lov then wgt (D n) * W n else 0) + ∑ i ∈ Finset.range 6, if use i then wgt (l.1 i) * l.2 i else 0)
        ((∑ n ∈ Finset.range 100352, if D n ≤ k.lov then wgt (D n) else 0) + ∑ i ∈ Finset.range 6, if use i then wgt (l.1 i) else 0)) :
    R = Ideal.div (∑ n ∈ G, wgt (D n) * W n) (∑ n ∈ G, wgt (D n)) := by
  obtain ⟨a, z, ha, hz, haz, hzz, hall⟩ := ends h x
  obtain ⟨i1, i2, i3⟩ := run_kept h ha hz haz hzz hall 9
  dsimp only at hR
  generalize (searchRun D mn mx 9).2 = k at *
  have i1 : k.hav = 1 ∧ okCount k.clo ∧ k.clo = cntAll D k.lov ∧ k.lov ≤ (z : EReal) := by
    rcases i1 with ⟨-, j⟩ | j
    · obtain ⟨p, hp, hc⟩ := hf
      exact absurd hc (j p hp)
    · exact j
  obtain ⟨-, c1, c2, c3⟩ := i1
  rw [cntAll_eq h hzz c3] at c2
  rw [cntAll_eq h hzz i2] at i3
  have hS := c1
  unfold okCount at hS
  rw [c2, word_44, word_49] at hS
  have hS1 : 44 ≤ (below D k.lov).card := by exact_mod_cast hS.1
  have hS2 : (below D k.lov).card ≤ 49 := by exact_mod_cast hS.2
  have hU : 50 ≤ (below D k.hiv).card := by exact_mod_cast i3
  have hsub := below_sub h hS2
  have hSG : G.filter (fun n => D n ≤ k.lov) = below D k.lov := by
    ext n
    simp only [Finset.mem_filter]
    constructor
    · rintro ⟨h1, h2⟩
      exact Finset.mem_filter.2 ⟨Finset.mem_range.2 (h.sub n h1), h2⟩
    · intro h1
      exact ⟨hsub h1, (Finset.mem_filter.1 h1).2⟩
  have hT : restOf D G k.lov = G.filter (fun n => ¬ D n ≤ k.lov) := by
    unfold restOf; simp only [not_le]
  have hcard : (below D k.lov).card + (restOf D G k.lov).card = 50 := by
    rw [← hSG, hT, Finset.card_filter_add_card_filter_not, h.card]
  have h6 : (restOf D G k.lov).card ≤ 6 := by omega
  have inv := lists_inv (W := W) h hzz i2 (fun i hi => le_hiv h hU hi) h6 49 le_rfl
  have hall' : (restOf D G k.lov).filter (fun n => n < 2048 * 49) = restOf D G k.lov :=
    Finset.filter_true_of_mem fun n hn => by have := h.sub n (Finset.mem_filter.1 hn).1; omega
  rw [hall'] at inv
  have e1 := sum_entries inv h6 (fun d w => wgt d * w)
  have e2 := sum_entries inv h6 (fun d w => wgt d)
  have key := hR (fun i => i < (restOf D G k.lov).card) fun i hi => by
    rw [word_50, c2]
    have : ((50 : ℕ) : EReal) - ((below D k.lov).card : EReal) = ((restOf D G k.lov).card : EReal) := by
      rw [← hcard]
      push_cast
      rw [add_comm]
      exact EReal.add_sub_cancel_right
    rw [this]
    constructor
    · intro hc
      refine ⟨by exact_mod_cast hc, ?_⟩
      obtain ⟨a, ha, em, -, -⟩ := inv.low i hi hc
      rw [em]
      exact h.lt_big (h.sub a (Finset.mem_filter.1 ha).1)
    · rintro ⟨hc, -⟩
      exact_mod_cast hc
  rw [key, e1, e2, ← Finset.sum_filter, ← Finset.sum_filter, filter_all h hzz c3, ← hSG, hT,
    Finset.sum_filter_add_sum_filter_not, Finset.sum_filter_add_sum_filter_not]

/-! ## The mean, weight by weight -/

theorem sum_mul_real {ι : Type*} (s : Finset ι) (f : ι → EReal) {r : ℝ} (hr : 0 ≤ r) : (∑ i ∈ s, f i) * (r : EReal) = ∑ i ∈ s, f i * r := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]

theorem coe_sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a weighted sum is dividing the weights. -/
theorem mean_eq {ι : Type*} (s : Finset ι) (w v : ι → EReal) (hw : ∀ i ∈ s, ∃ x : ℝ, w i = x ∧ 0 < x) (hs : s.Nonempty) :
    Ideal.div (∑ i ∈ s, w i * v i) (∑ i ∈ s, w i) = ∑ i ∈ s, Ideal.div (w i) (∑ i ∈ s, w i) * v i := by
  classical
  have ht : ∃ t : ℝ, (∑ i ∈ s, w i) = t ∧ 0 < t := by
    have : ∀ i, ∃ x : ℝ, i ∈ s → w i = x ∧ 0 < x := fun i => by
      by_cases h : i ∈ s
      · obtain ⟨x, hx⟩ := hw i h; exact ⟨x, fun _ => hx⟩
      · exact ⟨0, fun q => absurd q h⟩
    choose x hx using this
    refine ⟨∑ i ∈ s, x i, ?_, Finset.sum_pos (fun i hi => (hx i hi).2) hs⟩
    rw [coe_sum_real]
    exact Finset.sum_congr rfl fun i hi => (hx i hi).1
  obtain ⟨t, et, h0⟩ := ht
  rw [et]
  have hne : (t : EReal) ≠ 0 := by exact_mod_cast h0.ne'
  have hd : ∀ y : EReal, Ideal.div y (t : EReal) = y * ((t⁻¹ : ℝ) : EReal) := fun y => by
    unfold Ideal.div
    rw [if_neg hne, ← EReal.coe_inv]
  simp only [hd]
  rw [sum_mul_real _ _ (inv_nonneg.2 h0.le)]
  exact Finset.sum_congr rfl fun i _ => mul_right_comm _ _ _

theorem wgt_pos {d : ℝ} (hd : 0 ≤ d) : ∃ x : ℝ, wgt d = x ∧ 0 < x := by
  have h0 : (0 : ℝ) < d + 8589935 / 2 ^ 33 := by positivity
  refine ⟨(d + 8589935 / 2 ^ 33)⁻¹, ?_, inv_pos.2 h0⟩
  unfold wgt Ideal.div
  rw [word_milli, ← EReal.coe_add, if_neg (by exact_mod_cast h0.ne'), one_mul, ← EReal.coe_inv]

end Cert.Knn
-- ==== Proof.Buffers.lean ====
/-
  What the buffers hold: the second call's inputs as the arguments' entries, and the three results.
-/
module

public import proofs.«01_k».proof.Proof.Run
public import proofs.«01_k».proof.Proof.RowMath
public import Idealize.ShloMosaic.Lib.Pointwise
public import Idealize.ShloMosaic.Lib.Pipeline.ValueKit.Point
public import Idealize.ShloMosaic.Lib.Pipeline.Value

@[expose] public section

set_option maxRecDepth 16384

noncomputable section

namespace Cert.Knn

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- The padded keys the second call reads. -/
theorem keys_buf (c : Dev nD) : V6 m (outs₁ m) c main_v1
    = (pad S100352x64 ![0, 0] ![352, 0] ![0, 0] (m ((c : Thread nD τ).loc main_arg5) : FVec Ideal S100000x64 .f32) (constant S_ .f32 0x5D5E0B6B#32) pads_S100000x64_S100352x64_03520_000 h_S_ : FVec Ideal S100352x64 .f32) := by
  rw [V6_of m (outs₁ m) c main_v1 (by decide), V5_of m (outs₁ m) c main_v1 (by decide), V4_of m (outs₁ m) c main_v1 (by decide)]
  unfold_abbrev_sides
  after_results
  rfl

/-- The padded values the second call reads. -/
theorem vals_buf (c : Dev nD) : V6 m (outs₁ m) c main_v4
    = (shapeCast S49x1x2048 (pad S100352 ![0] ![352] ![0] (shapeCast S100000 (m ((c : Thread nD τ).loc main_arg6) : FVec Ideal S100000x1 .f32) shapeCasts_S100000x1_S100000) (sitofp (F := Ideal) .f32 (constantI S_ 32 0#32)) pads_S100000_S100352_03520 h_S_) shapeCasts_S100352_S49x1x2048 : FVec Ideal S49x1x2048 .f32) := by
  unfold_abbrev_sides
  after_results
  rfl

/-- The activations the second call reads. -/
theorem acts_buf (c : Dev nD) : V6 m (outs₁ m) c main_v0_0 = Pipeline.afterRegion (first m c) (V0 m c) main_v0_0 := by
  rw [V6_of m (outs₁ m) c main_v0_0 (by decide), V5_of m (outs₁ m) c main_v0_0 (by decide), V4_of m (outs₁ m) c main_v0_0 (by decide), V3_of m (outs₁ m) c main_v0_0 (by decide), V2_of m (outs₁ m) c main_v0_0 (by decide)]
  rfl

theorem pad_keys (x : FVec Ideal S100000x64 .f32) (n : Fin 100352) (k : Fin 64) :
    (pad S100352x64 ![0, 0] ![352, 0] ![0, 0] x (constant S_ .f32 0x5D5E0B6B#32) pads_S100000x64_S100352x64_03520_000 h_S_ : FVec Ideal S100352x64 .f32) (ix2 n k)
    = if h : n.val < 100000 then x (ix2 ⟨n.val, h⟩ k) else Ideal.ofBits .f32 0x5D5E0B6B#32 := by
  pointwise

theorem pad_vals (x : FVec Ideal S100000x1 .f32) (j : Fin 49) (r : Fin 2048) (h : 2048 * j.val + r.val < 100000) :
    (shapeCast S49x1x2048 (pad S100352 ![0] ![352] ![0] (shapeCast S100000 x shapeCasts_S100000x1_S100000) (sitofp (F := Ideal) .f32 (constantI S_ 32 0#32)) pads_S100000_S100352_03520 h_S_) shapeCasts_S100352_S49x1x2048 : FVec Ideal S49x1x2048 .f32) (ix3 j 0 r)
    = x (ix2 ⟨2048 * j.val + r.val, h⟩ 0) := by
  pointwise
  rw [dif_pos (by omega)]
  exact congrArg (fun i => x (ix2 i 0)) (Fin.ext (by dsimp only; omega))

/-- The keys after padding, at an entry: the key, or the padding word. -/
theorem keys_entry (c : Dev nD) (n : Fin 100352) (k : Fin 64) : (V6 m (outs₁ m) c main_v1 : FVec Ideal S100352x64 .f32) (ix2 n k)
    = if h : n.val < 100000 then (m ((c : Thread nD τ).loc main_arg5) : FVec Ideal S100000x64 .f32) (ix2 ⟨n.val, h⟩ k) else Ideal.ofBits .f32 0x5D5E0B6B#32 := by
  rw [keys_buf]
  exact pad_keys _ n k

/-- The values after padding, at an entry: the value, or zero. -/
theorem vals_entry (c : Dev nD) (j : Fin 49) (r : Fin 2048) (h : 2048 * j.val + r.val < 100000) :
    (V6 m (outs₁ m) c main_v4 : FVec Ideal S49x1x2048 .f32) (ix3 j 0 r)
    = (m ((c : Thread nD τ).loc main_arg6) : FVec Ideal S100000x1 .f32) (ix2 ⟨2048 * j.val + r.val, h⟩ 0) := by
  rw [vals_buf]
  exact pad_vals _ j r h

/-- The second call's window positions. -/
theorem at1_0 (t : Fin cfg1.N) : win1_0.index t 0 = 0 ∧ win1_0.index t 1 = 0 := ⟨rfl, rfl⟩
theorem at1_1 : ∀ t : Fin cfg1.N, win1_1.index t 0 = t.val % 49 ∧ win1_1.index t 1 = 0 := by decide +kernel
theorem at1_2 : ∀ t : Fin cfg1.N, win1_2.index t 0 = t.val % 49 ∧ win1_2.index t 1 = 0 ∧ win1_2.index t 2 = 0 := by decide +kernel

variable (V : (c : Dev nD) → (b : Ref sig .tc) → Buf (Elt Ideal) ((c : Thread nD τ).loc b))

theorem blk1_0 (c : Dev nD) (t : Fin cfg1.N) (b : Fin 1024) (k : Fin 64) :
    (iblk1 V c 0 t : HBlk) (ix2 b k) = (V c main_v0_0 : FVec Ideal S1024x64 .f32) (ix2 b k) := by
  blk_ext! [iblk1, (at1_0 t).1, (at1_0 t).2]

theorem blk1_1 (c : Dev nD) (t : Fin cfg1.N) (r : Fin 2048) (k : Fin 64) (h : 2048 * (t.val % 49) + r.val < 100352) :
    (iblk1 V c 1 t : KBlk) (ix2 r k) = (V c main_v1 : FVec Ideal S100352x64 .f32) (ix2 ⟨2048 * (t.val % 49) + r.val, h⟩ k) := by
  blk_ext! [iblk1, (at1_1 t).1, (at1_1 t).2]

theorem blk1_2 (c : Dev nD) (t : Fin cfg1.N) (r : Fin 2048) :
    (iblk1 V c 2 t : VBlk) (ix3 0 0 r) = (V c main_v4 : FVec Ideal S49x1x2048 .f32) (ix3 ⟨t.val % 49, Nat.mod_lt _ (by norm_num)⟩ 0 r) := by
  blk_ext! [iblk1, (at1_2 t).1, (at1_2 t).2.1, (at1_2 t).2.2]

end Cert.Knn
-- ==== Proof.Passes.lean ====
/-
  The lookup call's eleven passes at a row, as plain numbers: the extremes after the first, the search and the kept threshold
  after the nine counting passes, and the sums and the remainder's list after the last.
-/
module

public import proofs.«01_k».proof.Proof.Plain
public import proofs.«01_k».proof.Proof.Region1

@[expose] public section

set_option maxRecDepth 16384

noncomputable section

namespace Cert.Knn

open Cert.KernelIdeal Cert.KernelIdeal.Gen
open Idealize.ShloMosaic Idealize.ShloMosaic.TcCoe

/-! ## The kernel follows them -/

variable (V : (c : Dev nD) → (b : Ref sig .tc) → Buf (Elt Ideal) ((c : Thread nD τ).loc b)) (c : Dev nD) (b : Fin 1024) (D W : ℕ → EReal)

/-- `D` and `W` are the row's distances and the values, as every pass reads them. -/
structure Row : Prop where
  /-- the distances -/
  d : ∀ (t : Fin cfg1.N) (r : Fin 2048), dist (iblk1 V c 0 t) (iblk1 V c 1 t) b r = D (2048 * (t.val % 49) + r.val)
  /-- the values -/
  w : ∀ (t : Fin cfg1.N) (r : Fin 2048), (iblk1 V c 2 t : VBlk) (ix3 0 0 r) = W (2048 * (t.val % 49) + r.val)

/-- The scratch before grid point `n`. -/
@[irreducible] def sAt (n : ℕ) : St Ideal := stAt V c stJunk n

theorem sAt_succ {n : ℕ} (hn : n < 539) : ∃ t : Fin cfg1.N, t.val = n ∧
    sAt V c (n + 1) = stepAt n (grid1.coords t) (iblk1 V c 0 t) (iblk1 V c 1 t) (iblk1 V c 2 t) (sAt V c n) := by
  have hN : n < cfg1.N := by have : cfg1.N = 539 := N_1; omega
  refine ⟨⟨n, hN⟩, rfl, ?_⟩
  unfold sAt
  exact stAt_succ V c stJunk ⟨n, hN⟩

variable {V c b D W}

/-- The extremes after some chunks of the first pass. -/
theorem extremes (row : Row V c b D W) : ∀ j, j < 49 →
    (∀ x, x ≤ (sAt V c (j + 1)).mn (ix2 b 0) ↔ x ≤ big ∧ ∀ n < 2048 * (j + 1), n < 100000 → x ≤ D n) ∧
    (∀ x, (sAt V c (j + 1)).mx (ix2 b 0) ≤ x ↔ nbig ≤ x ∧ ∀ n < 2048 * (j + 1), n < 100000 → D n ≤ x) := by
  intro j
  induction j with
  | zero =>
    intro _
    obtain ⟨t, ht, e⟩ := sAt_succ V c (n := 0) (by omega)
    have hc : (grid1.coords t 1).val = 0 := by rw [chunk_eq, ht]
    have hd := row.d t
    rw [e, stepAt, if_pos (by omega), if_pos rfl]
    refine ⟨fun x => ?_, fun x => ?_⟩
    · rw [scan_mn _ (by omega), (first_at _ _).1, le_min_iff, Finset.le_fold_min, forall_chunk]
      simp only [hd, hc, ht, Finset.mem_univ, true_implies, le_top, true_and]
      constructor
      · rintro ⟨h1, h2⟩
        refine ⟨h1, by omega, fun r hr => ?_⟩
        have := h2 r
        rwa [if_neg (by omega)] at this
      · rintro ⟨h1, -, h2⟩
        refine ⟨h1, fun r => ?_⟩
        split
        · exact h1
        · exact h2 r (by omega)
    · rw [scan_mx _ (by omega), (first_at _ _).2, max_le_iff, Finset.fold_max_le, forall_chunk]
      simp only [hd, hc, ht, Finset.mem_univ, true_implies, bot_le, true_and]
      constructor
      · rintro ⟨h1, h2⟩
        refine ⟨h1, by omega, fun r hr => ?_⟩
        have := h2 r
        rwa [if_neg (by omega)] at this
      · rintro ⟨h1, -, h2⟩
        refine ⟨h1, fun r => ?_⟩
        split
        · exact h1
        · exact h2 r (by omega)
  | succ j ih =>
    intro hj
    obtain ⟨i1, i2⟩ := ih (by omega)
    obtain ⟨t, ht, e⟩ := sAt_succ V c (n := j + 1) (by omega)
    have hm : t.val % 49 = j + 1 := by omega
    have hc : (grid1.coords t 1).val = j + 1 := by rw [chunk_eq, hm]
    have hd := row.d t
    rw [e, stepAt, if_pos (by omega), if_neg (by omega)]
    refine ⟨fun x => ?_, fun x => ?_⟩
    · rw [scan_mn _ (by omega), le_min_iff, i1, Finset.le_fold_min, forall_chunk _ (j + 1)]
      simp only [hd, hc, hm, Finset.mem_univ, true_implies, le_top, true_and]
      constructor
      · rintro ⟨⟨h1, h0⟩, h2⟩
        refine ⟨h1, h0, fun r hr => ?_⟩
        have := h2 r
        rwa [if_neg (by omega)] at this
      · rintro ⟨h1, h0, h2⟩
        refine ⟨⟨h1, h0⟩, fun r => ?_⟩
        split
        · exact h1
        · exact h2 r (by omega)
    · rw [scan_mx _ (by omega), max_le_iff, i2, Finset.fold_max_le, forall_chunk _ (j + 1)]
      simp only [hd, hc, hm, Finset.mem_univ, true_implies, bot_le, true_and]
      constructor
      · rintro ⟨⟨h1, h0⟩, h2⟩
        refine ⟨h1, h0, fun r hr => ?_⟩
        have := h2 r
        rwa [if_neg (by omega)] at this
      · rintro ⟨h1, h0, h2⟩
        refine ⟨⟨h1, h0⟩, fun r => ?_⟩
        split
        · exact h1
        · exact h2 r (by omega)

/-- The scratch a counting pass starts counting from. -/
def passBase (V : (c : Dev nD) → (b : Ref sig .tc) → Buf (Elt Ideal) ((c : Thread nD τ).loc b)) (c : Dev nD) (p : ℕ) : St Ideal :=
  if p = 1 then stStart (sAt V c (49 * p)) else stMove (sAt V c (49 * p))

/-- A counting pass changes the count only, and counts chunk by chunk. -/
theorem count_pass (row : Row V c b D W) (p : ℕ) (h1 : 1 ≤ p) (h9 : p ≤ 9) : ∀ j, j < 49 →
    ∃ v, sAt V c (49 * p + j + 1) = { passBase V c p with cnt := v } ∧
      v (ix2 b 0) = ∑ n ∈ Finset.range (2048 * (j + 1)), if D n ≤ (passBase V c p).tc (ix2 b 0) then 1 else 0 := by
  have h0 : (passBase V c p).cnt (ix2 b 0) = 0 := by
    unfold passBase
    split
    · exact (start_at _ b).2.1
    · exact move_cnt _ b
  intro j
  induction j with
  | zero =>
    intro _
    obtain ⟨t, ht, e⟩ := sAt_succ V c (n := 49 * p) (by omega)
    have hm : t.val % 49 = 0 := by omega
    have hd := row.d t
    rw [stepAt, if_neg (by omega), if_pos (by omega), if_pos (by omega)] at e
    have hp : (49 * p / 49 = 1) = (p = 1) := by rw [Nat.mul_div_cancel_left _ (by norm_num)]
    simp only [hp] at e
    refine ⟨(stCount (iblk1 V c 0 t) (iblk1 V c 1 t) (passBase V c p)).cnt, e, ?_⟩
    rw [count_cnt, h0, sum_chunk]
    simp only [hd, hm, mul_zero, Finset.range_zero, Finset.sum_empty]
  | succ j ih =>
    intro hj
    obtain ⟨v, e0, ev⟩ := ih (by omega)
    obtain ⟨t, ht, e⟩ := sAt_succ V c (n := 49 * p + j + 1) (by omega)
    have hm : t.val % 49 = j + 1 := by omega
    have hd := row.d t
    rw [stepAt, if_neg (by omega), if_pos (by omega), if_neg (by omega), e0] at e
    refine ⟨(stCount (iblk1 V c 0 t) (iblk1 V c 1 t) { passBase V c p with cnt := v }).cnt, e, ?_⟩
    rw [count_cnt, sum_chunk _ (j + 1), ← ev]
    simp only [hd, hm]

/-- What a row keeps. -/
def keptAt (s : St Ideal) (b : Fin 1024) : Kept := ⟨s.clo (ix2 b 0), s.lov (ix2 b 0), s.hiv (ix2 b 0), s.hav (ix2 b 0)⟩

theorem srchAt_t (s : St Ideal) (b : Fin 1024) : (srchAt s b).t = s.tc (ix2 b 0) := rfl

theorem keptAt_move (s : St Ideal) (b : Fin 1024) : keptAt (stMove s) b = (keptAt s b).step (s.cnt (ix2 b 0)) (s.tc (ix2 b 0)) := by
  unfold keptAt Kept.step
  rw [move_clo, move_lov, move_hiv, move_hav]

theorem srchAt_cnt (s : St Ideal) (v : Vec Ideal S1024x1 .f32) (b : Fin 1024) : srchAt { s with cnt := v } b = srchAt s b := rfl
theorem keptAt_cnt (s : St Ideal) (v : Vec Ideal S1024x1 .f32) (b : Fin 1024) : keptAt { s with cnt := v } b = keptAt s b := rfl

theorem keptAt_reset (s : St Ideal) (b : Fin 1024) : keptAt (stReset s) b = keptAt s b := rfl

/-- After each counting pass the kernel's search is the plain one, and its count the threshold's. -/
theorem search_pass (row : Row V c b D W) : ∀ p, p < 9 →
    let s := sAt V c (49 * (p + 1) + 48 + 1)
    let q := searchRun D ((sAt V c 49).mn (ix2 b 0)) ((sAt V c 49).mx (ix2 b 0)) p
    srchAt s b = q.1 ∧ keptAt s b = q.2 ∧ s.cnt (ix2 b 0) = cntAll D q.1.t := by
  intro p
  induction p with
  | zero =>
    intro _
    obtain ⟨v, e, ev⟩ := count_pass row 1 le_rfl (by omega) 48 (by omega)
    have hb : passBase V c 1 = stStart (sAt V c 49) := by rw [passBase, if_pos rfl]
    obtain ⟨q1, q2, q3, q4, q5, q6⟩ := start_at (sAt V c 49) b
    rw [hb] at ev e
    have e' : sAt V c (49 * (0 + 1) + 48 + 1) = { stStart (sAt V c 49) with cnt := v } := e
    dsimp only
    rw [e', srchAt_cnt, keptAt_cnt]
    clear e e' hb
    generalize stStart (sAt V c 49) = B at *
    have ht := congrArg Srch.t q1
    rw [srchAt_t] at ht
    refine ⟨q1, ?_, ?_⟩
    · unfold keptAt
      rw [q3, q4, q5, q6, searchRun]
    · rw [searchRun, cntAll, ← ht]
      exact ev
  | succ p ih =>
    intro hp
    obtain ⟨i1, i2, i3⟩ := ih (by omega)
    obtain ⟨v, e, ev⟩ := count_pass row (p + 2) (by omega) (by omega) 48 (by omega)
    have hb : passBase V c (p + 2) = stMove (sAt V c (49 * (p + 1) + 48 + 1)) := by
      rw [passBase, if_neg (by omega), show 49 * (p + 2) = 49 * (p + 1) + 48 + 1 by ring]
    dsimp only
    rw [show 49 * (p + 1 + 1) + 48 + 1 = 49 * (p + 2) + 48 + 1 from rfl, e, hb, srchAt_cnt, keptAt_cnt]
    rw [hb] at ev
    clear e hb
    generalize sAt V c (49 * (p + 1) + 48 + 1) = s at *
    have q1 := srchAt_move s b
    have q2 := keptAt_move s b
    have ht := congrArg Srch.t i1
    rw [srchAt_t] at ht
    rw [i1, i3] at q1
    rw [i2, i3, ht] at q2
    have ht' := congrArg Srch.t q1
    rw [srchAt_t] at ht'
    generalize stMove s = B at *
    refine ⟨q1, q2, ?_⟩
    rw [searchRun, cntAll, ← ht']
    exact ev

theorem stLast_eq (x2 : HBlk) (x3 : KBlk) (x4 : VBlk) (s : St Ideal) :
    stLast x2 x3 x4 s = { s with sw := (stLast x2 x3 x4 s).sw, swv := (stLast x2 x3 x4 s).swv, mch := (stLast x2 x3 x4 s).mch, vch := (stLast x2 x3 x4 s).vch } := by
  simp only [stLast]

/-- The last pass changes the sums and the list only, chunk by chunk. -/
theorem last_pass (row : Row V c b D W) (B : St Ideal) (hB : B = stReset (stMove (sAt V c 490))) (lov : EReal) (hlov : lov = B.lov (ix2 b 0)) :
    ∀ j, j < 49 → ∃ x y m v, sAt V c (490 + j + 1) = { B with sw := x, swv := y, mch := m, vch := v } ∧
      x (ix2 b 0) = (∑ n ∈ Finset.range (2048 * (j + 1)), if D n ≤ lov then wgt (D n) else 0) ∧
      y (ix2 b 0) = (∑ n ∈ Finset.range (2048 * (j + 1)), if D n ≤ lov then wgt (D n) * W n else 0) ∧
      (∀ i < 6, row6 m b i = (lists D W lov (B.hiv (ix2 b 0)) (j + 1)).1 i) ∧
      (∀ i < 6, row6 v b i = (lists D W lov (B.hiv (ix2 b 0)) (j + 1)).2 i) := by
  intro j
  obtain ⟨z1, z2, z3, z4⟩ := reset_at (stMove (sAt V c 490)) b
  rw [← hB] at z1 z2 z3 z4
  induction j with
  | zero =>
    intro _
    obtain ⟨t, ht, e⟩ := sAt_succ V c (n := 490) (by omega)
    have hm : t.val % 49 = 0 := by omega
    have hd := row.d t
    have hw := row.w t
    rw [stepAt, if_neg (by omega), if_neg (by omega), if_pos (by omega), ← hB, stLast_eq] at e
    have hl := last_list (iblk1 V c 0 t) (iblk1 V c 1 t) (iblk1 V c 2 t) B b _ _ z3 z4
    have hc : candAt (iblk1 V c 0 t) (iblk1 V c 1 t) (B.lov (ix2 b 0)) (B.hiv (ix2 b 0)) b = candOf D lov (B.hiv (ix2 b 0)) 0 := by
      funext r; simp only [candAt, candOf, hd, hm, hlov]
    rw [hc] at hl
    simp only [hw, hm] at hl
    refine ⟨_, _, _, _, e, ?_, ?_, hl.1, hl.2⟩
    · refine (last_sw _ _ _ _ b).trans ?_
      rw [z1, sum_chunk, ← hlov]
      simp only [hd, hm, mul_zero, Finset.range_zero, Finset.sum_empty]
    · refine (last_swv _ _ _ _ b).trans ?_
      rw [z2, sum_chunk, ← hlov]
      simp only [hd, hw, hm, mul_zero, Finset.range_zero, Finset.sum_empty]
  | succ j ih =>
    intro hj
    obtain ⟨x, y, m, v, e0, ex, ey, em, ev⟩ := ih (by omega)
    obtain ⟨t, ht, e⟩ := sAt_succ V c (n := 490 + j + 1) (by omega)
    have hm : t.val % 49 = j + 1 := by omega
    have hd := row.d t
    have hw := row.w t
    rw [stepAt, if_neg (by omega), if_neg (by omega), if_neg (by omega), e0, stLast_eq] at e
    have hl := last_list (iblk1 V c 0 t) (iblk1 V c 1 t) (iblk1 V c 2 t) { B with sw := x, swv := y, mch := m, vch := v } b _ _ em ev
    have hc : candAt (iblk1 V c 0 t) (iblk1 V c 1 t) (B.lov (ix2 b 0)) (B.hiv (ix2 b 0)) b = candOf D lov (B.hiv (ix2 b 0)) (j + 1) := by
      funext r; simp only [candAt, candOf, hd, hm, hlov]
    simp only [hc] at hl
    simp only [hw, hm] at hl
    refine ⟨_, _, _, _, e, ?_, ?_, hl.1, hl.2⟩
    · refine (last_sw _ _ _ _ b).trans ?_
      rw [sum_chunk _ (j + 1), ← ex]
      simp only [hd, hm, hlov]
    · refine (last_swv _ _ _ _ b).trans ?_
      rw [sum_chunk _ (j + 1), ← ey]
      simp only [hd, hw, hm, hlov]

open Classical in
/-- The row of the lookup's result, as plain numbers. -/
theorem row_out (row : Row V c b D W) : ∃ mn mx : EReal,
    (∀ x, x ≤ mn ↔ x ≤ big ∧ ∀ n < 100000, x ≤ D n) ∧ (∀ x, mx ≤ x ↔ nbig ≤ x ∧ ∀ n < 100000, D n ≤ x) ∧
    let k := (searchRun D mn mx 9).2
    let l := lists D W k.lov k.hiv 49
    ∀ use : ℕ → Prop, (∀ i < 6, use i ↔ ((i + 1 : ℕ) : EReal) ≤ Ideal.ofBits .f32 0x42480000#32 - k.clo ∧ l.1 i < big) →
    stOut (sAt V c 539) (ix2 b 0) = Ideal.div
      ((∑ n ∈ Finset.range 100352, if D n ≤ k.lov then wgt (D n) * W n else 0) + ∑ i ∈ Finset.range 6, if use i then wgt (l.1 i) * l.2 i else 0)
      ((∑ n ∈ Finset.range 100352, if D n ≤ k.lov then wgt (D n) else 0) + ∑ i ∈ Finset.range 6, if use i then wgt (l.1 i) else 0) := by
  obtain ⟨e1, e2⟩ := extremes row 48 (by omega)
  rw [show 48 + 1 = 49 from rfl, show 2048 * 49 = 100352 from rfl] at e1 e2
  refine ⟨(sAt V c 49).mn (ix2 b 0), (sAt V c 49).mx (ix2 b 0), fun x => ?_, fun x => ?_, ?_⟩
  · rw [e1 x]
    exact and_congr_right fun _ => ⟨fun h n hn => h n (by omega) hn, fun h n _ hn => h n hn⟩
  · rw [e2 x]
    exact and_congr_right fun _ => ⟨fun h n hn => h n (by omega) hn, fun h n _ hn => h n hn⟩
  · intro k l use hu
    have hkv : (searchRun D ((sAt V c 49).mn (ix2 b 0)) ((sAt V c 49).mx (ix2 b 0)) 9).2 = k := rfl
    have hl : lists D W k.lov k.hiv 49 = l := rfl
    clear_value l
    clear_value k
    obtain ⟨i1, i2, i3⟩ := search_pass row 8 (by omega)
    have hr := congrArg Prod.snd (searchRun_succ D ((sAt V c 49).mn (ix2 b 0)) ((sAt V c 49).mx (ix2 b 0)) 8)
    rw [show 8 + 1 = 9 from rfl, hkv] at hr
    rw [show 49 * (8 + 1) + 48 + 1 = 490 from rfl] at i1 i2 i3
    generalize searchRun D ((sAt V c 49).mn (ix2 b 0)) ((sAt V c 49).mx (ix2 b 0)) 8 = q8 at *
    have hk : keptAt (stMove (sAt V c 490)) b = k := by
      have ht := congrArg Srch.t i1
      rw [srchAt_t] at ht
      rw [keptAt_move, i2, i3, ht, hr]
    obtain ⟨B, hB⟩ : ∃ B, B = stReset (stMove (sAt V c 490)) := ⟨_, rfl⟩
    have hkB : keptAt B b = k := by rw [hB, ← hk, keptAt_reset]
    have klo : B.lov (ix2 b 0) = k.lov := by rw [← hkB]; rfl
    have khi : B.hiv (ix2 b 0) = k.hiv := by rw [← hkB]; rfl
    have kcl : B.clo (ix2 b 0) = k.clo := by rw [← hkB]; rfl
    obtain ⟨x, y, m, v, e, ex, ey, em, ev⟩ := last_pass row B hB _ klo.symm 48 (by omega)
    rw [khi, show 48 + 1 = 49 from rfl, hl] at em ev
    rw [show 490 + 48 + 1 = 539 from rfl] at e
    rw [show 2048 * (48 + 1) = 100352 from rfl] at ex ey
    rw [e]
    clear e hk hkB hB
    have hu' : ∀ i < 6, use i ↔ ((i + 1 : ℕ) : EReal) ≤ Ideal.ofBits .f32 0x42480000#32 - B.clo (ix2 b 0) ∧ row6 m b i < big := fun i hi => by
      rw [hu i hi, em i hi, kcl]
    have s1 : (∑ i ∈ Finset.range 6, if use i then wgt (row6 m b i) * row6 v b i else 0) = ∑ i ∈ Finset.range 6, if use i then wgt (l.1 i) * l.2 i else 0 :=
      Finset.sum_congr rfl fun i hi => by rw [em i (Finset.mem_range.1 hi), ev i (Finset.mem_range.1 hi)]
    have s2 : (∑ i ∈ Finset.range 6, if use i then wgt (row6 m b i) else 0) = ∑ i ∈ Finset.range 6, if use i then wgt (l.1 i) else 0 :=
      Finset.sum_congr rfl fun i hi => by rw [em i (Finset.mem_range.1 hi)]
    rw [← s1, ← s2, ← ex, ← ey]
    exact out_at { B with sw := x, swv := y, mch := m, vch := v } b use hu'

end Cert.Knn
-- ==== Proof.Results.lean ====
/-
  The three results after the run: the activations and the probabilities as the first call's payloads of the arguments, the
  value as the second call's last state.
-/
module

public import proofs.«01_k».proof.Proof.Buffers
public import proofs.«01_k».proof.Proof.Passes

@[expose] public section

set_option maxRecDepth 16384

noncomputable section

namespace Cert.Knn

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

section Head
variable (V : (c : Dev nD) → (b : Ref sig .tc) → Buf (Elt Ideal) ((c : Thread nD τ).loc b))

/-- The first call's one point. -/
abbrev only : Fin cfg0.N := ⟨0, by decide⟩

theorem at0_0 : win0_0.index only 0 = 0 ∧ win0_0.index only 1 = 0 := ⟨rfl, rfl⟩
theorem at0_1 : win0_1.index only 0 = 0 ∧ win0_1.index only 1 = 0 := ⟨rfl, rfl⟩
theorem at0_2 : win0_2.index only 0 = 0 := rfl
theorem at0_3 : win0_3.index only 0 = 0 ∧ win0_3.index only 1 = 0 := ⟨rfl, rfl⟩
theorem at0_4 : win0_4.index only 0 = 0 := rfl

theorem blk0_0 (c : Dev nD) : (iblk0 V c 0 only : FVec Ideal S1024x128 .f32) = V c main_arg0 := by funext y; blk_ext! [iblk0, at0_0.1, at0_0.2]
theorem blk0_1 (c : Dev nD) : (iblk0 V c 1 only : FVec Ideal S64x128 .f32) = V c main_arg1 := by funext y; blk_ext! [iblk0, at0_1.1, at0_1.2]
theorem blk0_2 (c : Dev nD) : (iblk0 V c 2 only : FVec Ideal S64 .f32) = V c main_arg2 := by funext y; blk_ext! [iblk0, at0_2]
theorem blk0_3 (c : Dev nD) : (iblk0 V c 3 only : FVec Ideal S18x64 .f32) = V c main_arg3 := by funext y; blk_ext! [iblk0, at0_3.1, at0_3.2]
theorem blk0_4 (c : Dev nD) : (iblk0 V c 4 only : FVec Ideal S18 .f32) = V c main_arg4 := by funext y; blk_ext! [iblk0, at0_4]

theorem arr0_5 (c : Dev nD) : (dat0 V c).arrAt 5 cfg0.N
    = k0_pay1 (V c main_arg0 : FVec Ideal S1024x128 .f32) (V c main_arg1 : FVec Ideal S64x128 .f32) (V c main_arg2 : FVec Ideal S64 .f32) := by
  funext i
  refine ((dat0 V c).arrAt_emb_eq_after_last 5 only (by decide +kernel) i).trans ?_
  rw [after0_5]
  rw [blk0_0, blk0_1, blk0_2]
  rfl

theorem arr0_6 (c : Dev nD) : (dat0 V c).arrAt 6 cfg0.N
    = k0_pay2 (V c main_arg0 : FVec Ideal S1024x128 .f32) (V c main_arg1 : FVec Ideal S64x128 .f32) (V c main_arg2 : FVec Ideal S64 .f32)
        (V c main_arg3 : FVec Ideal S18x64 .f32) (V c main_arg4 : FVec Ideal S18 .f32) := by
  funext i
  refine ((dat0 V c).arrAt_emb_eq_after_last 6 only (by decide +kernel) i).trans ?_
  rw [after0_6]
  rw [blk0_0, blk0_1, blk0_2, blk0_3, blk0_4]
  rfl

theorem arr1_3 (c : Dev nD) : (dat1 V c).arrAt 3 cfg1.N = stOut (sAt V c 539) := by
  funext i
  refine ((dat1 V c).arrAt_emb_eq_after_last 3 ⟨538, by decide⟩ (by decide +kernel) i).trans ?_
  rw [after1_3]
  unfold sAt
  generalize stAt V c stJunk 539 = s
  rfl

end Head

/-- The arguments as arrays. -/
abbrev argX (c : Dev nD) : FVec Ideal S1024x128 .f32 := m ((c : Thread nD τ).loc main_arg0)
abbrev argW (c : Dev nD) : FVec Ideal S64x128 .f32 := m ((c : Thread nD τ).loc main_arg1)
abbrev argB (c : Dev nD) : FVec Ideal S64 .f32 := m ((c : Thread nD τ).loc main_arg2)
abbrev argP (c : Dev nD) : FVec Ideal S18x64 .f32 := m ((c : Thread nD τ).loc main_arg3)
abbrev argQ (c : Dev nD) : FVec Ideal S18 .f32 := m ((c : Thread nD τ).loc main_arg4)
abbrev argK (c : Dev nD) : FVec Ideal S100000x64 .f32 := m ((c : Thread nD τ).loc main_arg5)
abbrev argV (c : Dev nD) : FVec Ideal S100000x1 .f32 := m ((c : Thread nD τ).loc main_arg6)

/-- The activations the kernel computes. -/
def actsK (c : Dev nD) : FVec Ideal S1024x64 .f32 := k0_pay1 (argX m c) (argW m c) (argB m c)

/-- The probabilities the kernel computes. -/
def probsK (c : Dev nD) : FVec Ideal S1024x18 .f32 := k0_pay2 (argX m c) (argW m c) (argB m c) (argP m c) (argQ m c)

/-- What the second call finds in the buffers. -/
abbrev found2 : (c : Dev nD) → (b : Ref sig .tc) → Buf (Elt Ideal) ((c : Thread nD τ).loc b) := bufs (V6 m (outs₁ m))

theorem acts_found (c : Dev nD) : V6 m (outs₁ m) c main_v0_0 = actsK m c := by
  rw [acts_buf]
  exact (Pipeline.afterRegion_arr (first m c) (V0 m c) launch0.win.arr_inj 5).trans (arr0_5 _ c)

theorem probs_found (c : Dev nD) : V6 m (outs₁ m) c main_v0_1 = probsK m c := by
  rw [V6_of m (outs₁ m) c main_v0_1 (by decide), V5_of m (outs₁ m) c main_v0_1 (by decide), V4_of m (outs₁ m) c main_v0_1 (by decide), V3_of m (outs₁ m) c main_v0_1 (by decide), V2_of m (outs₁ m) c main_v0_1 (by decide)]
  exact (Pipeline.afterRegion_arr (first m c) (V0 m c) launch0.win.arr_inj 6).trans (arr0_6 _ c)

/-- The activations at the end of the run. -/
theorem acts_end (c : Dev nD) : V7 m (outs m) c main_v0_0 = actsK m c := by
  rw [V7_of m (outs m) c main_v0_0 (by decide), V6_outs]; exact acts_found m c

/-- The probabilities at the end of the run. -/
theorem probs_end (c : Dev nD) : V7 m (outs m) c main_v0_1 = probsK m c := by
  rw [V7_of m (outs m) c main_v0_1 (by decide), V6_outs]; exact probs_found m c

/-- The value at the end of the run. -/
theorem value_end (c : Dev nD) : V7 m (outs m) c main_v5 = stOut (sAt (found2 m) c 539) := by
  rw [← after6]
  exact (Pipeline.afterRegion_arr (second m c) (V6 m (outs₁ m) c) launch1.win.arr_inj 3).trans (arr1_3 _ c)

/-- The key of number `n`: a stored key, or past the last one the padding word in every entry. -/
def keyOf (K : FVec Ideal S100000x64 .f32) (n : ℕ) (k : Fin 64) : EReal :=
  if h : n < 100000 then K (ix2 ⟨n, h⟩ k) else Ideal.ofBits .f32 0x5D5E0B6B#32

/-- The squared distance of the row `b` to the key of number `n`, as the kernel writes it. -/
def distOf (H : FVec Ideal S1024x64 .f32) (K : FVec Ideal S100000x64 .f32) (b : Fin 1024) (n : ℕ) : EReal :=
  ((∑ k : Fin 64, H (ix2 b k) * H (ix2 b k)) + ∑ k, keyOf K n k * keyOf K n k) - Ideal.ofBits .f32 0x40000000#32 * ∑ k, H (ix2 b k) * keyOf K n k

/-- The value of number `n`, as the second call finds it. -/
def valOf (c : Dev nD) (n : ℕ) : EReal :=
  if h : n / 2048 < 49 then (V6 m (outs₁ m) c main_v4 : FVec Ideal S49x1x2048 .f32) (ix3 ⟨n / 2048, h⟩ 0 ⟨n % 2048, Nat.mod_lt _ (by norm_num)⟩) else 0

/-- Below the number of keys it is the stored value. -/
theorem valOf_lt (c : Dev nD) (n : ℕ) (h : n < 100000) : valOf m c n = argV m c (ix2 ⟨n, h⟩ 0) := by
  have h1 : n / 2048 < 49 := by omega
  have e : 2048 * (n / 2048) + n % 2048 = n := Nat.div_add_mod n 2048
  rw [valOf, dif_pos h1, vals_entry m c ⟨n / 2048, h1⟩ ⟨n % 2048, Nat.mod_lt _ (by norm_num)⟩ (by dsimp only; omega)]
  exact congrArg (fun i => argV m c (ix2 i 0)) (Fin.ext e)

/-- The second call reads, block by block, those distances and those values. -/
theorem row (c : Dev nD) (b : Fin 1024) : Row (found2 m) c b (distOf (actsK m c) (argK m c) b) (valOf m c) where
  d t r := by
    have hn : 2048 * (t.val % 49) + r.val < 100352 := by have := r.isLt; have := Nat.mod_lt t.val (show 0 < 49 by norm_num); omega
    have e0 : ∀ k, (iblk1 (found2 m) c 0 t : HBlk) (ix2 b k) = actsK m c (ix2 b k) := fun k =>
      (blk1_0 (found2 m) c t b k).trans (congrFun (acts_found m c) _)
    have e1 : ∀ k, (iblk1 (found2 m) c 1 t : KBlk) (ix2 r k) = keyOf (argK m c) (2048 * (t.val % 49) + r.val) k := fun k =>
      (blk1_1 (found2 m) c t r k hn).trans (keys_entry m c ⟨_, hn⟩ k)
    unfold dist distOf
    simp only [e0, e1]
  w t r := by
    have hr := r.isLt
    have hm := Nat.mod_lt t.val (show 0 < 49 by norm_num)
    have h1 : (2048 * (t.val % 49) + r.val) / 2048 < 49 := by omega
    rw [blk1_2, valOf, dif_pos h1]
    have ej : (⟨(2048 * (t.val % 49) + r.val) / 2048, h1⟩ : Fin 49) = ⟨t.val % 49, hm⟩ := Fin.ext (by dsimp only; omega)
    have er : (⟨(2048 * (t.val % 49) + r.val) % 2048, Nat.mod_lt _ (by norm_num)⟩ : Fin 2048) = r := Fin.ext (by dsimp only; omega)
    rw [ej, er]

end Cert.Knn
-- ==== Proof.Head.lean ====
/-
  The activations and the probabilities: the first call's payloads are the reference's terms.
-/
module

public import proofs.«01_k».proof.Proof.Results
public import proofs.«01_k».proof.Proof.Gen.ReferenceIdeal

@[expose] public section

set_option maxRecDepth 16384

noncomputable section

namespace Cert.Knn

open Cert.KernelIdeal.Gen (k0_pay1 k0_pay2)
open Cert.ReferenceIdeal Cert.ReferenceIdeal.Gen
open Idealize.ShloMosaic Idealize.ShloMosaic.TcCoe Idealize.ShloMosaic.Tactic

/-- The reference's activations. -/
def actsR (x : FVec Ideal S1024x128 .f32) (w : FVec Ideal S64x128 .f32) (b : FVec Ideal S64 .f32) : FVec Ideal S1024x64 .f32 :=
  maximumf (addf (Host.dotGeneral dot_S1024x128_S128x64_S1024x64_1_0_0_1_n_n none x (transpose S128x64 [1, 0] w transposes_S64x128_S128x64_1_0)) (broadcastInDim S1024x64 ![0, 1] bcast_S1x64_S1024x64_0_1 (broadcastInDim S1x64 ![1] bcast_S64_S1x64_1 b))) (broadcastInDim S1024x64 ![] bcast_S_S1024x64 (constant S_ .f32 0x00000000#32))

/-- The kernel's activations are the reference's. -/
theorem acts_same (x : FVec Ideal S1024x128 .f32) (w : FVec Ideal S64x128 .f32) (b : FVec Ideal S64 .f32) :
    (k0_pay1 x w b : FVec Ideal S1024x64 .f32) = actsR x w b := by
  funext i
  rw [ValueIdx.eq_ix2 i]
  pointwise [k0_pay1, actsR]

/-- The reference's logits. -/
def logitsR (h : FVec Ideal S1024x64 .f32) (w : FVec Ideal S18x64 .f32) (b : FVec Ideal S18 .f32) : FVec Ideal S1024x18 .f32 :=
  addf (Host.dotGeneral dot_S1024x64_S64x18_S1024x18_1_0_0_1_n_n none h (transpose S64x18 [1, 0] w transposes_S18x64_S64x18_1_0)) (broadcastInDim S1024x18 ![0, 1] bcast_S1x18_S1024x18_0_1 (broadcastInDim S1x18 ![1] bcast_S18_S1x18_1 b))

/-- The reference's shifted exponentials. -/
def expsR (l : FVec Ideal S1024x18 .f32) : FVec Ideal S1024x18 .f32 :=
  Host.exp (subf l (broadcastInDim S1024x18 ![0, 1] bcast_S1024x1_S1024x18_0_1 (broadcastInDim S1024x1 ![0] bcast_S1024_S1024x1_0 (maximumf (broadcastInDim S1024 ![] bcast_S_S1024 (constant S_ .f32 0xFF800000#32)) (Host.reduce FloatOps.maximumf l (constant S_ .f32 0xFF800000#32) reducesTo_S1024x18_S1024_d1 h_S_)))))

/-- The reference's probabilities from its shifted exponentials. -/
def normR (e : FVec Ideal S1024x18 .f32) : FVec Ideal S1024x18 .f32 :=
  Host.divf e (broadcastInDim S1024x18 ![0, 1] bcast_S1024x1_S1024x18_0_1 (broadcastInDim S1024x1 ![0] bcast_S1024_S1024x1_0 (Host.reduceAdd e (constant S_ .f32 0x00000000#32) reducesTo_S1024x18_S1024_d1 h_S_)))

theorem word_bot : Ideal.ofBits .f32 0xFF800000#32 = ⊥ := by simp [Ideal.ofBits, Ideal.ieee]

/-- The kernel's probabilities are the reference's. -/
theorem probs_same (x : FVec Ideal S1024x128 .f32) (w : FVec Ideal S64x128 .f32) (b : FVec Ideal S64 .f32) (p : FVec Ideal S18x64 .f32) (q : FVec Ideal S18 .f32) :
    (k0_pay2 x w b p q : FVec Ideal S1024x18 .f32) = normR (expsR (logitsR (actsR x w b) p q)) := by
  unfold k0_pay2
  rw [acts_same]
  generalize actsR x w b = h
  funext i
  rw [ValueIdx.eq_ix2 i]
  pointwise [normR, expsR, logitsR]
  simp only [word_bot, max_eq_right bot_le]

end Cert.Knn
-- ==== Proof.TopK.lean ====
/-
  The greatest entries of a row: the operation that sorts a row in descending order and keeps the first `k` entries with their
  positions, read at an entry.
-/
module

public import proofs.«01_k».proof.Proof.Head
public import Idealize.ShloMosaic.Lib.SortFacts

@[expose] public section

noncomputable section

namespace Cert.Knn

open Idealize.ShloMosaic Idealize.ShloMosaic.Tactic

variable {p n k : ℕ}

/-- The positions of a row of numbers in descending order of the numbers. -/
@[irreducible] def order (y : Fin n → EReal) : Fin n → Fin n := sortedFrom fun i j => decide (y j < y i)

theorem order_injective (y : Fin n → EReal) : Function.Injective (order y) := by
  unfold order; exact sortedFrom_injective _

theorem order_surjective (y : Fin n → EReal) : Function.Surjective (order y) := by
  unfold order; exact sortedFrom_surjective _

/-- Along the order the numbers do not grow. -/
theorem order_le (y : Fin n → EReal) {i j : Fin n} (h : i ≤ j) : y (order y j) ≤ y (order y i) := by
  rcases h.eq_or_lt with rfl | h
  · exact le_rfl
  unfold order
  have := sortedFrom_noInversion (fun i j => decide (y j < y i)) (fun i j => decide (y j < y i))
    (fun a b e => by simp only [decide_eq_true_eq, decide_eq_false_iff_not, not_lt] at *; exact e.le) (fun _ _ e => e)
    (fun a b c e f => by simp only [decide_eq_false_iff_not, not_lt] at *; exact e.trans f) i j h
  simpa using this

/-- The operation at an entry: the number, and its position, at that place of the order. -/
theorem topK_at (x : FVec Ideal ⟨2, ![p, n]⟩ .f32) (h) (b : Fin p) (i : Fin k) (hi : i.val < n) :
    (Host.topK ⟨2, ![p, k]⟩ 1 (FloatOps.cmpfTotal .gt) x h).1 (ix2 b i) = x (ix2 b (order (fun r => x (ix2 b r)) ⟨i.val, hi⟩))
    ∧ (Host.topK ⟨2, ![p, k]⟩ 1 (FloatOps.cmpfTotal .gt) x h).2 (ix2 b i) = BitVec.ofNat 32 (order (fun r => x (ix2 b r)) ⟨i.val, hi⟩).val := by
  have e : (fun i j : Fin n => (FloatOps.cmpfTotal .gt (x (ix2 b i)) (x (ix2 b j)) == 1#1)) = fun i j => decide (x (ix2 b j) < x (ix2 b i)) := by
    funext i j
    rw [Ideal.cmpfTotal_def]
    show (BitVec.ofBool (decide (x (ix2 b i) > x (ix2 b j))) == 1#1) = _
    by_cases hh : x (ix2 b j) < x (ix2 b i) <;> simp [hh]
  have a : ∀ i r : Fin n, Shape.Idx.along (s := ⟨2, ![p, n]⟩) (ix2 b i) (1 : Fin 2) r = ix2 b r := by
    intro i r
    funext q
    fin_cases q <;> rfl
  unfold order
  have hs : ∀ hh : (⟨2, ![p, n]⟩ : Shape).Slices (fun _ => 0) ⟨2, ![p, k]⟩, (fun q : Fin 2 => (⟨0 + (ix2 (n0 := p) (n1 := k) b i (Fin.cast hh.1.symm q)).val,
      Nat.lt_of_lt_of_le (Nat.add_lt_add_left (ix2 (n0 := p) (n1 := k) b i _).isLt _) (hh.2 q)⟩ : Fin ((![p, n] : Fin 2 → ℕ) q))) = ix2 b ⟨i.val, hi⟩ := by
    intro hh
    funext q; fin_cases q <;> exact Fin.ext (Nat.zero_add _)
  have s2 : ∀ (y : IVec ⟨2, ![p, n]⟩ 32) (i' : Fin n),
      (Host.sort2 ⟨2, ![p, n]⟩ 1 (fun l r => FloatOps.cmpfTotal (F := Ideal) (φ := .f32) .gt l.1 r.1) x y).1 (ix2 b i')
        = x (ix2 b (sortedFrom (fun i j => decide (x (ix2 b j) < x (ix2 b i))) i'))
      ∧ (Host.sort2 ⟨2, ![p, n]⟩ 1 (fun l r => FloatOps.cmpfTotal (F := Ideal) (φ := .f32) .gt l.1 r.1) x y).2 (ix2 b i')
        = y (ix2 b (sortedFrom (fun i j => decide (x (ix2 b j) < x (ix2 b i))) i')) := by
    intro y i'
    have e' : (fun u v : Fin n => (FloatOps.cmpfTotal (F := Ideal) (φ := .f32) .gt (x (Shape.Idx.along (s := ⟨2, ![p, n]⟩) (ix2 b i') (1 : Fin 2) u))
        (x (Shape.Idx.along (s := ⟨2, ![p, n]⟩) (ix2 b i') (1 : Fin 2) v)) == 1#1)) = fun i j => decide (x (ix2 b j) < x (ix2 b i)) := by
      rw [← e]
      funext u v
      rw [a, a]
    unfold Host.sort2
    rw [dif_pos (show 1 < (⟨2, ![p, n]⟩ : Shape).rank from Nat.one_lt_two)]
    constructor
    · exact (congrArg x (a i' (sortedFrom _ i'))).trans (congrArg (fun f => x (ix2 b (sortedFrom f i'))) e')
    · exact (congrArg y (a i' (sortedFrom _ i'))).trans (congrArg (fun f => y (ix2 b (sortedFrom f i'))) e')
  constructor
  · refine Eq.trans ?_ (s2 (fun i => if hd : 1 < (⟨2, ![p, n]⟩ : Shape).rank then iotaInDim ⟨2, ![p, n]⟩ 32 ⟨1, hd⟩ i else 0#32) ⟨i.val, hi⟩).1
    dsimp only [Host.topK, extractStridedSlice]
    exact congrArg (Host.sort2 ⟨2, ![p, n]⟩ 1 (fun l r => FloatOps.cmpfTotal (F := Ideal) (φ := .f32) .gt l.1 r.1) x _).1 (hs h)
  · refine Eq.trans ?_ ((s2 (fun i => if hd : 1 < (⟨2, ![p, n]⟩ : Shape).rank then iotaInDim ⟨2, ![p, n]⟩ 32 ⟨1, hd⟩ i else 0#32) ⟨i.val, hi⟩).2.trans ?_)
    · dsimp only [Host.topK, extractStridedSlice]
      exact congrArg (Host.sort2 ⟨2, ![p, n]⟩ 1 (fun l r => FloatOps.cmpfTotal (F := Ideal) (φ := .f32) .gt l.1 r.1) x _).2 (hs h)
    · rfl

end Cert.Knn
-- ==== Proof.RefValue.lean ====
/-
  The reference's value: the weighted mean over the fifty nearest keys.
-/
module

public import proofs.«01_k».proof.Proof.TopK
public import Idealize.ShloMosaic.Lib.StableHlo.Predicate

@[expose] public section

set_option maxRecDepth 16384

noncomputable section

namespace Cert.Knn

open Cert.ReferenceIdeal Cert.ReferenceIdeal.Gen
open Idealize.ShloMosaic Idealize.ShloMosaic.TcCoe Idealize.ShloMosaic.Tactic

/-- The reference's squared distances, from the activations and the keys. -/
def distR (H : FVec Ideal S1024x64 .f32) (K : FVec Ideal S100000x64 .f32) : FVec Ideal S1024x100000 .f32 :=
  subf (addf (broadcastInDim S1024x100000 ![0, 1] bcast_S1024x1_S1024x100000_0_1 (broadcastInDim S1024x1 ![0] bcast_S1024_S1024x1_0 (Host.reduceAdd (mulf H H) (constant S_ .f32 0x00000000#32) reducesTo_S1024x64_S1024_d1 h_S_))) (broadcastInDim S1024x100000 ![0, 1] bcast_S1x100000_S1024x100000_0_1 (broadcastInDim S1x100000 ![1] bcast_S100000_S1x100000_1 (Host.reduceAdd (mulf K K) (constant S_ .f32 0x00000000#32) reducesTo_S100000x64_S100000_d1 h_S_)))) (mulf (broadcastInDim S1024x100000 ![] bcast_S_S1024x100000 (constant S_ .f32 0x40000000#32)) (Host.dotGeneral dot_S1024x64_S64x100000_S1024x100000_1_0_0_1_n_n none H (transpose S64x100000 [1, 0] K transposes_S100000x64_S64x100000_1_0)))

/-- A squared distance, at its entry. -/
theorem distR_at (H : FVec Ideal S1024x64 .f32) (K : FVec Ideal S100000x64 .f32) (b : Fin 1024) (r : Fin 100000) :
    distR H K (ix2 b r) = distOf H K b r.val := by
  have e : ∀ k, keyOf K r.val k = K (ix2 r k) := fun k => by rw [keyOf, dif_pos r.isLt]
  unfold distOf
  simp only [e]
  pointwise [distR]

/-- The reference's weights, from the fifty greatest negated distances. -/
def weightsR (v : FVec Ideal S1024x50 .f32) : FVec Ideal S1024x50 .f32 :=
  Host.divf (broadcastInDim S1024x50 ![] bcast_S_S1024x50 (constant S_ .f32 0x3F800000#32)) (addf (Host.negf v) (broadcastInDim S1024x50 ![] bcast_S_S1024x50 (constant S_ .f32 0x3A83126F#32)))

/-- The positions, counted from the end where negative, as the index of a lookup. -/
def placesR (i : IVec S1024x50 32) : IVec S1024x50x1 32 :=
  broadcastInDim S1024x50x1 ![0, 1] bcast_S1024x50_S1024x50x1_0_1 (select (cmpi .slt i (broadcastInDim S1024x50 ![] bcast_S_S1024x50 (constantI S_ 32 0#32))) (addi i (broadcastInDim S1024x50 ![] bcast_S_S1024x50 (constantI S_ 32 100000#32))) i)

/-- Which positions are inside the table. -/
def insideR (q : IVec S1024x50x1 32) : IVec S1024x50 1 :=
  Host.reduce IntOp.andi (andi (cmpi .sge q (broadcastInDim S1024x50x1 ![] bcast_S_S1024x50x1 (constantI S_ 32 0#32))) (cmpi .sle q (broadcastInDim S1024x50x1 ![0, 1, 2] bcast_S1x1x1_S1024x50x1_0_1_2 (broadcastInDim S1x1x1 ![2] bcast_S1_S1x1x1_2 (constantI S1 32 99999#32))))) (constantI S_ 1 1#1) reducesTo_S1024x50x1_S1024x50_d2 h_S_

/-- The looked-up values. -/
def lookupR (V : FVec Ideal S100000x1 .f32) (q : IVec S1024x50x1 32) : FVec Ideal S1024x50 .f32 :=
  Host.gather gather_S100000_S1024x50x1_S1024x50_n_0_n_n_0_2_1 (shapeCast S100000 V shapeCasts_S100000x1_S100000) q

/-- The weighted mean. -/
def meanR (w : FVec Ideal S1024x50 .f32) (inside : IVec S1024x50 1) (v : FVec Ideal S1024x50 .f32) : FVec Ideal S1024x1 .f32 :=
  broadcastInDim S1024x1 ![0] bcast_S1024_S1024x1_0 (Host.reduceAdd (mulf (Host.divf w (broadcastInDim S1024x50 ![0, 1] bcast_S1024x1_S1024x50_0_1 (broadcastInDim S1024x1 ![0] bcast_S1024_S1024x1_0 (Host.reduceAdd w (constant S_ .f32 0x00000000#32) reducesTo_S1024x50_S1024_d1 h_S_)))) (select inside v (broadcastInDim S1024x50 ![] bcast_S_S1024x50 (constant S_ .f32 0x7FC00000#32)))) (constant S_ .f32 0x00000000#32) reducesTo_S1024x50_S1024_d1 h_S_)

theorem weightsR_at (v : FVec Ideal S1024x50 .f32) (b : Fin 1024) (j : Fin 50) : weightsR v (ix2 b j) = wgt (-(v (ix2 b j))) := by
  unfold wgt milli
  pointwise [weightsR]

theorem cmp_slt_zero (n : ℕ) (hn : n < 100000) : IntOp.cmpi .slt (BitVec.ofNat 32 n) 0#32 = 0#1 := by
  have h := StableHlo.Predicate.toInt_ofNat_small n (by omega)
  simp only [IntOp.cmpi, BitVec.slt, h]
  rw [show (0#32 : BitVec 32).toInt = 0 from rfl, decide_eq_false (by omega)]
  rfl

theorem cmp_sge_zero (n : ℕ) (hn : n < 100000) : IntOp.cmpi .sge (BitVec.ofNat 32 n) 0#32 = 1#1 := by
  have h := StableHlo.Predicate.toInt_ofNat_small n (by omega)
  simp only [IntOp.cmpi, BitVec.sle, h]
  simp

theorem cmp_sle_last (n : ℕ) (hn : n < 100000) : IntOp.cmpi .sle (BitVec.ofNat 32 n) 99999#32 = 1#1 := by
  have h := StableHlo.Predicate.toInt_ofNat_small n (by omega)
  have h' := StableHlo.Predicate.toInt_ofNat_small 99999 (by omega)
  simp only [IntOp.cmpi, BitVec.sle, h, h']
  rw [decide_eq_true (by omega)]
  rfl

theorem placesR_at (i : IVec S1024x50 32) (b : Fin 1024) (j : Fin 50) (n : ℕ) (hn : n < 100000) (h : i (ix2 b j) = BitVec.ofNat 32 n) :
    placesR i (ix3 b j 0) = BitVec.ofNat 32 n := by
  pointwise [placesR]
  rw [h, cmp_slt_zero n hn]
  rfl

theorem insideR_at (q : IVec S1024x50x1 32) (b : Fin 1024) (j : Fin 50) (n : ℕ) (hn : n < 100000) (h : q (ix3 b j 0) = BitVec.ofNat 32 n) :
    insideR q (ix2 b j) = 1#1 := by
  pointwise [insideR]
  have e : ∀ x : Fin 1, x = 0 := fun x => Subsingleton.elim _ _
  simp only [e, h, cmp_sge_zero n hn, cmp_sle_last n hn]
  rfl

theorem lookupR_at (V : FVec Ideal S100000x1 .f32) (q : IVec S1024x50x1 32) (b : Fin 1024) (j : Fin 50) (n : ℕ) (hn : n < 100000) (h : q (ix3 b j 0) = BitVec.ofNat 32 n) :
    lookupR V q (ix2 b j) = V (ix2 ⟨n, hn⟩ 0) := by
  pointwise [lookupR]
  unfold Host.gather
  have ea : gather_S100000_S1024x50x1_S1024x50_n_0_n_n_0_2_1.operandIdx (ix2 b j) q = (ix1 ⟨n, hn⟩ : S100000.Idx) := by
    funext a
    obtain rfl : a = 0 := Subsingleton.elim _ _
    apply Fin.ext
    have hb : (0 : Fin 1) ∉ gather_S100000_S1024x50x1_S1024x50_n_0_n_n_0_2_1.operandBatchingDims := List.not_mem_nil
    have hk : (0 : Fin 1) ∉ gather_S100000_S1024x50x1_S1024x50_n_0_n_n_0_2_1.sKept := by rw [GatherDims.mem_sKept]; exact fun q => q.1 (List.mem_singleton.mpr rfl)
    have hm : (0 : Fin 1) ∈ gather_S100000_S1024x50x1_S1024x50_n_0_n_n_0_2_1.startIndexMap := List.mem_singleton.mpr rfl
    have hi : gather_S100000_S1024x50x1_S1024x50_n_0_n_n_0_2_1.siIdx (ix2 b j) ⟨0, Nat.zero_lt_one⟩ = ix3 b j 0 := by
      funext a
      fin_cases a <;> rfl
    simp only [GatherDims.operandIdx, GatherDims.batchCoord_eq_zero _ _ _ hb, GatherDims.offCoord_eq_zero _ _ _ hk, Nat.add_zero, GatherDims.start, dif_pos hm]
    show min (q (gather_S100000_S1024x50x1_S1024x50_n_0_n_n_0_2_1.siIdx (ix2 b j) ⟨0, Nat.zero_lt_one⟩)).toInt.toNat (100000 - 1) = n
    rw [hi, h, StableHlo.Predicate.toInt_ofNat_small n (by omega)]
    omega
  rw [ea]
  pointwise

theorem meanR_at (w : FVec Ideal S1024x50 .f32) (inside : IVec S1024x50 1) (v : FVec Ideal S1024x50 .f32) (b : Fin 1024) (hi : ∀ j, inside (ix2 b j) = 1#1) :
    meanR w inside v (ix2 b 0) = ∑ j : Fin 50, Ideal.div (w (ix2 b j)) (∑ l : Fin 50, w (ix2 b l)) * v (ix2 b j) := by
  pointwise [meanR]
  simp only [hi]
  rfl

/-- The reference's value from the fifty greatest negated distances and their positions. -/
def valueR (v : FVec Ideal S1024x50 .f32) (i : IVec S1024x50 32) (V : FVec Ideal S100000x1 .f32) : FVec Ideal S1024x1 .f32 :=
  meanR (weightsR v) (insideR (placesR i)) (lookupR V (placesR i))

theorem negf_at {s : Shape} (x : FVec Ideal s .f32) (i : s.Idx) : Host.negf x i = -x i := rfl

theorem negDist_at (H : FVec Ideal S1024x64 .f32) (K : FVec Ideal S100000x64 .f32) (b : Fin 1024) (r : Fin 100000) :
    Host.negf (distR H K) (ix2 b r) = -distOf H K b r.val := by
  rw [negf_at, distR_at]

/-- The order of the negated distances, at one place. -/
def placeOf (D : ℕ → EReal) (i : ℕ) (hi : i < 100000) : Fin 100000 := order (fun r : Fin 100000 => -D r.val) ⟨i, hi⟩

theorem topK_dist {k : ℕ} (H : FVec Ideal S1024x64 .f32) (K : FVec Ideal S100000x64 .f32) (b : Fin 1024) (h) (i : Fin k) (hi : i.val < 100000) :
    (Host.topK ⟨2, ![1024, k]⟩ 1 (FloatOps.cmpfTotal .gt) (Host.negf (distR H K)) h).1 (ix2 b i) = -distOf H K b (placeOf (distOf H K b) i.val hi).val
    ∧ (Host.topK ⟨2, ![1024, k]⟩ 1 (FloatOps.cmpfTotal .gt) (Host.negf (distR H K)) h).2 (ix2 b i) = BitVec.ofNat 32 (placeOf (distOf H K b) i.val hi).val := by
  have ht := topK_at (Host.negf (distR H K)) h b i hi
  have e : (fun r : Fin 100000 => Host.negf (distR H K) (ix2 b r)) = fun r : Fin 100000 => -distOf H K b r.val := funext (negDist_at H K b)
  rw [e, negDist_at] at ht
  exact ht

theorem valueR_of (v : FVec Ideal S1024x50 .f32) (i : IVec S1024x50 32) (V : FVec Ideal S100000x1 .f32) (b : Fin 1024) (D : ℕ → EReal) (n : Fin 50 → Fin 100000)
    (hv : ∀ j, v (ix2 b j) = -D (n j).val) (hi : ∀ j, i (ix2 b j) = BitVec.ofNat 32 (n j).val) :
    valueR v i V (ix2 b 0) = ∑ j : Fin 50, Ideal.div (wgt (D (n j).val)) (∑ l : Fin 50, wgt (D (n l).val)) * V (ix2 (n j) 0) := by
  have hp : ∀ j, placesR i (ix3 b j 0) = BitVec.ofNat 32 (n j).val := fun j => placesR_at i b j _ (Fin.isLt _) (hi j)
  rw [valueR, meanR_at _ _ _ b fun j => insideR_at _ b j _ (Fin.isLt _) (hp j)]
  have hw : ∀ j, weightsR v (ix2 b j) = wgt (D (n j).val) := fun j => by rw [weightsR_at, hv, neg_neg]
  have hl : ∀ j, lookupR V (placesR i) (ix2 b j) = V (ix2 (n j) 0) := fun j => lookupR_at V _ b j _ (Fin.isLt _) (hp j)
  simp only [hw, hl]

/-- The numbers of the fifty nearest keys to a row, nearest first. -/
def nearest (D : ℕ → EReal) (j : Fin 50) : Fin 100000 := placeOf D j.val (lt_of_lt_of_le j.isLt (by norm_num))

/-- The reference's value at a row: the mean of the fifty nearest keys' values under their weights. -/
theorem valueR_at (H : FVec Ideal S1024x64 .f32) (K : FVec Ideal S100000x64 .f32) (V : FVec Ideal S100000x1 .f32) (b : Fin 1024) (h) :
    valueR (Host.topK S1024x50 1 (FloatOps.cmpfTotal .gt) (Host.negf (distR H K)) h).1 (Host.topK S1024x50 1 (FloatOps.cmpfTotal .gt) (Host.negf (distR H K)) h).2 V (ix2 b 0)
    = ∑ j : Fin 50, Ideal.div (wgt (distOf H K b (nearest (distOf H K b) j).val)) (∑ l : Fin 50, wgt (distOf H K b (nearest (distOf H K b) l).val)) * V (ix2 (nearest (distOf H K b) j) 0) :=
  valueR_of _ _ V b (distOf H K b) (nearest (distOf H K b)) (fun j => (topK_dist H K b h j _).1) (fun j => (topK_dist H K b h j _).2)

/-- The set of the fifty nearest keys' numbers. -/
def fifty (D : ℕ → EReal) : Finset ℕ := Finset.univ.image fun j => (nearest D j).val

theorem nearest_injective (D : ℕ → EReal) : Function.Injective fun j => (nearest D j).val := fun i j e => by
  have := order_injective _ (Fin.ext e)
  exact Fin.ext (Fin.mk.inj_iff.mp this)

theorem sum_fifty {M : Type} [AddCommMonoid M] (D : ℕ → EReal) (f : ℕ → M) : ∑ n ∈ fifty D, f n = ∑ j, f (nearest D j).val :=
  Finset.sum_image fun _ _ _ _ e => nearest_injective D e

end Cert.Knn
-- ==== Proof.Pre.lean ====
/-
  What the precondition says, read back from its printed function: the sizes of the projections and of the keys, the fifty-one
  nearest distances differing from one to the next, and the threshold search meeting an accepted count.
-/
module

public import proofs.«01_k».proof.Proof.RefValue
public import Idealize.ShloMosaic.Lib.ReduceAll

@[expose] public section

set_option maxRecDepth 16384

noncomputable section

namespace Cert.Knn

open Cert.Pre_search_succeeds
open Idealize.ShloMosaic Idealize.ShloMosaic.TcCoe

/-- The side conditions of the precondition's operations. -/
theorem pre_facts : Cert.Pre_search_succeeds.Facts := by
  constructor <;> decide

variable [Cert.Pre_search_succeeds.Facts]

/-- The precondition's function from the projections and the distances. -/
theorem fn_eq (x : FVec Ideal S1024x128 .f32) (w : FVec Ideal S64x128 .f32) (b : FVec Ideal S64 .f32) (p : FVec Ideal S18x64 .f32) (q : FVec Ideal S18 .f32)
    (K : FVec Ideal S100000x64 .f32) (V : FVec Ideal S100000x1 .f32) :
    fn (F := Ideal) x w b p q K V = fn_part1 (F := Ideal) K (actsR x w b) (distR (actsR x w b) K) (constant S_ .f32 0x49742400#32) := rfl

/-- The search at a row of the precondition, after `p` counts. -/
def preRun (d : FVec Ideal S1024x100000 .f32) (b : Fin 1024) (mn mx : EReal) : ℕ → Srch
  | 0 => Srch.start (lo0 mn) (hi0 mx)
  | p + 1 => (preRun d b mn mx p).step (countAt d b (preRun d b mn mx p).t)

/-- Seven columns hold the search at every row after `i` counts. -/
def Follows (d : FVec Ideal S1024x100000 .f32) (mn mx : Fin 1024 → EReal) (i : ℕ) (lo hi flo fhi sd t : FVec Ideal S1024x1 .f32) (found : IVec S1024x1 1) : Prop :=
  ∀ b, (⟨lo (ix2 b 0), hi (ix2 b 0), flo (ix2 b 0), fhi (ix2 b 0), sd (ix2 b 0), t (ix2 b 0)⟩ : Srch) = preRun d b (mn b) (mx b) i
    ∧ (found (ix2 b 0) = 1#1 ↔ ∃ p < i, okCount (countAt d b (preRun d b (mn b) (mx b) p).t))

theorem follows_step {d : FVec Ideal S1024x100000 .f32} {mn mx : Fin 1024 → EReal} {i : ℕ} {lo hi flo fhi sd t : FVec Ideal S1024x1 .f32} {found : IVec S1024x1 1}
    (h : Follows d mn mx i lo hi flo fhi sd t found) :
    Follows d mn mx (i + 1) (fn_search_pass (F := Ideal) d lo hi flo fhi sd t found).1 (fn_search_pass (F := Ideal) d lo hi flo fhi sd t found).2.1
      (fn_search_pass (F := Ideal) d lo hi flo fhi sd t found).2.2.1 (fn_search_pass (F := Ideal) d lo hi flo fhi sd t found).2.2.2.1
      (fn_search_pass (F := Ideal) d lo hi flo fhi sd t found).2.2.2.2.1 (fn_search_pass (F := Ideal) d lo hi flo fhi sd t found).2.2.2.2.2.1
      (fn_search_pass (F := Ideal) d lo hi flo fhi sd t found).2.2.2.2.2.2 := by
  intro b
  obtain ⟨h1, h2⟩ := h b
  obtain ⟨e, f⟩ := search_pass_at d lo hi flo fhi sd t found b
  have ht : t (ix2 b (0 : Fin 1)) = (preRun d b (mn b) (mx b) i).t := congrArg Srch.t h1
  refine ⟨?_, ?_⟩
  · rw [e, h1, ht]; rfl
  · rw [f, h2, ht]
    constructor
    · rintro (⟨p, hp, h⟩ | h)
      · exact ⟨p, by omega, h⟩
      · exact ⟨i, by omega, h⟩
    · rintro ⟨p, hp, h⟩
      rcases Nat.lt_succ_iff_lt_or_eq.mp hp with hp | rfl
      · exact Or.inl ⟨p, hp, h⟩
      · exact Or.inr (by assumption)

/-- A search that went through: what the last part states. -/
def Ran (d : FVec Ideal S1024x100000 .f32) (mn mx : Fin 1024 → EReal) (a27 a32 : IVec S_ 1) : Prop :=
  (∀ b, ∃ p < 9, okCount (countAt d b (preRun d b (mn b) (mx b) p).t)) ∧ a27 = (fun _ => 1#1) ∧ a32 = (fun _ => 1#1)

theorem scalar_and {x y : IVec S_ 1} (h : andi x y = fun _ => 1#1) : x = (fun _ => 1#1) ∧ y = fun _ => 1#1 :=
  ⟨funext fun i => ((and_one _ _).mp (congrFun h i)).1, funext fun i => ((and_one _ _).mp (congrFun h i)).2⟩

theorem reduce_all {s : Shape} {axes : List (Fin s.rank)} {x : IVec s 1} {h : s.ReducesTo axes S_} {hu : 0 < S_.numel} {init : IVec S_ 1} (e : Host.reduce IntOp.andi x init h hu = fun _ => 1#1) (i : s.Idx) : x i = 1#1 :=
  haveI : Subsingleton S_.Idx := ⟨fun a b => funext fun k => k.elim0⟩
  Host.reduce_andi_all x init h hu (Shape.Idx.first hu) (congrFun e _) i

theorem part5 {d : FVec Ideal S1024x100000 .f32} {mn mx : Fin 1024 → EReal} {lo hi flo fhi sd t : FVec Ideal S1024x1 .f32} {found : IVec S1024x1 1} {a27 a32 : IVec S_ 1}
    (h : Follows d mn mx 6 lo hi flo fhi sd t found) (e : fn_part5 (F := Ideal) d a27 a32 lo hi flo fhi sd t found = fun _ => 1#1) : Ran d mn mx a27 a32 := by
  unfold fn_part5 at e
  extract_lets v63_0 v63_1 v63_2 v63_3 v63_4 v63_5 v63_6 v64_0 v64_1 v64_2 v64_3 v64_4 v64_5 v64_6 v65_0 v65_1 v65_2 v65_3 v65_4 v65_5 v65_6 v66 one v67 at e
  have h7 : Follows d mn mx 7 v63_0 v63_1 v63_2 v63_3 v63_4 v63_5 v63_6 := follows_step h
  clear_value v63_0 v63_1 v63_2 v63_3 v63_4 v63_5 v63_6
  have h8 : Follows d mn mx 8 v64_0 v64_1 v64_2 v64_3 v64_4 v64_5 v64_6 := follows_step h7
  clear_value v64_0 v64_1 v64_2 v64_3 v64_4 v64_5 v64_6
  have h9 : Follows d mn mx 9 v65_0 v65_1 v65_2 v65_3 v65_4 v65_5 v65_6 := follows_step h8
  clear_value v65_0 v65_1 v65_2 v65_3 v65_4 v65_5 v65_6
  obtain ⟨e1, e2⟩ := scalar_and (show andi v66 v67 = _ from e)
  obtain ⟨e3, e4⟩ := scalar_and (show andi a27 a32 = _ from e1)
  exact ⟨fun b => ((h9 b).2).mp (reduce_all e2 (ix2 b 0)), e3, e4⟩

theorem part4 {d : FVec Ideal S1024x100000 .f32} {mn mx : Fin 1024 → EReal} {lo hi flo fhi sd t : FVec Ideal S1024x1 .f32} {found : IVec S1024x1 1} {a27 a32 : IVec S_ 1}
    (h : Follows d mn mx 2 lo hi flo fhi sd t found)
    (e : fn_part4 (F := Ideal) d a27 a32 lo hi flo fhi sd t found (fn_search_pass (F := Ideal) d lo hi flo fhi sd t found).1 (fn_search_pass (F := Ideal) d lo hi flo fhi sd t found).2.1
      (fn_search_pass (F := Ideal) d lo hi flo fhi sd t found).2.2.1 (fn_search_pass (F := Ideal) d lo hi flo fhi sd t found).2.2.2.1 = fun _ => 1#1) : Ran d mn mx a27 a32 := by
  have h3 := follows_step h
  unfold fn_part4 at e
  extract_lets v59_4 v59_5 v59_6 v60_0 v60_1 v60_2 v60_3 v60_4 v60_5 v60_6 v61_0 v61_1 v61_2 v61_3 v61_4 v61_5 v61_6 v62_0 v62_1 v62_2 v62_3 v62_4 v62_5 v62_6 at e
  have h4 : Follows d mn mx 4 v60_0 v60_1 v60_2 v60_3 v60_4 v60_5 v60_6 := follows_step h3
  clear_value v60_0 v60_1 v60_2 v60_3 v60_4 v60_5 v60_6
  have h5 : Follows d mn mx 5 v61_0 v61_1 v61_2 v61_3 v61_4 v61_5 v61_6 := follows_step h4
  clear_value v61_0 v61_1 v61_2 v61_3 v61_4 v61_5 v61_6
  have h6 : Follows d mn mx 6 v62_0 v62_1 v62_2 v62_3 v62_4 v62_5 v62_6 := follows_step h5
  clear_value v62_0 v62_1 v62_2 v62_3 v62_4 v62_5 v62_6
  exact part5 h6 e

theorem part3 {d : FVec Ideal S1024x100000 .f32} {mn mx : Fin 1024 → EReal} {lo hi flo fhi sd diff : FVec Ideal S1024x1 .f32} {a27 a32 : IVec S_ 1}
    (hlo : ∀ b, lo (ix2 b 0) = lo0 (mn b)) (hhi : ∀ b, hi (ix2 b 0) = hi0 (mx b)) (hflo : ∀ b, flo (ix2 b 0) = Ideal.ofBits .f32 0xC07668D1#32)
    (hfhi : ∀ b, fhi (ix2 b 0) = Ideal.ofBits .f32 0x40F5358F#32) (hsd : ∀ b, sd (ix2 b 0) = 0) (hd : ∀ b, diff (ix2 b 0) = hi (ix2 b 0) - lo (ix2 b 0))
    (e : fn_part3 (F := Ideal) d a27 a32 lo hi flo fhi sd diff = fun _ => 1#1) : Ran d mn mx a27 a32 := by
  unfold fn_part3 at e
  extract_lets cst v53 v54 v55 c v56 v57_0 v57_1 v57_2 v57_3 v57_4 v57_5 v57_6 v58_0 v58_1 v58_2 v58_3 v58_4 v58_5 v58_6 v59_0 v59_1 v59_2 v59_3 at e
  have h0 : Follows d mn mx 0 lo hi flo fhi sd v55 v56 := by
    intro b
    have et : v55 (ix2 b 0) = lo (ix2 b 0) + Ideal.ofBits .f32 0x3DCCCCCD#32 * diff (ix2 b 0) := by
      pointwise [v55, v54, v53, cst]
    have ef : v56 (ix2 b 0) = 0#1 := by pointwise [v56, c]
    refine ⟨?_, ?_⟩
    · rw [et, hd, hlo, hhi, hflo, hfhi, hsd]; rfl
    · rw [ef]
      constructor
      · intro h; exact absurd h (by decide)
      · rintro ⟨p, hp, -⟩; omega
  clear_value v55 v56
  have h1 : Follows d mn mx 1 v57_0 v57_1 v57_2 v57_3 v57_4 v57_5 v57_6 := follows_step h0
  clear_value v57_0 v57_1 v57_2 v57_3 v57_4 v57_5 v57_6
  have h2 : Follows d mn mx 2 v58_0 v58_1 v58_2 v58_3 v58_4 v58_5 v58_6 := follows_step h1
  exact part4 h2 e

theorem part2 {d : FVec Ideal S1024x100000 .f32} {mn : FVec Ideal S1024x1 .f32} {mx : FVec Ideal S1024 .f32} {a27 a32 : IVec S_ 1}
    (e : fn_part2 (F := Ideal) d a27 a32 mn mx = fun _ => 1#1) : Ran d (fun b => mn (ix2 b 0)) (fun b => mx (ix1 b)) a27 a32 := by
  unfold fn_part2 at e
  refine part3 (lo := _) (hi := _) (flo := _) (fhi := _) (sd := _) (diff := _) ?_ ?_ ?_ ?_ ?_ ?_ e <;> intro b
  · pointwise [lo0, milli]
    rfl
  · pointwise [hi0, milli]
    rfl
  · pointwise
  · pointwise
  · pointwise
  · rfl

/-- A million, as the precondition writes it. -/
def million : EReal := Ideal.ofBits .f32 0x49742400#32

/-- What the precondition says of the projections, the keys and the distances. -/
structure Holds (K : FVec Ideal S100000x64 .f32) (H : FVec Ideal S1024x64 .f32) (d : FVec Ideal S1024x100000 .f32) : Prop where
  small : ∀ b k, H (ix2 b k) ≤ million
  keys : ∀ r k, max (K (ix2 r k)) (-K (ix2 r k)) ≤ million
  gaps : ∀ b (j : Fin 50), (Host.topK S1024x51 1 (FloatOps.cmpfTotal .gt) (Host.negf d) Facts.sliceFits_S1024x100000_S1024x51).1 (ix2 b ⟨j.val + 1, by omega⟩)
    < (Host.topK S1024x51 1 (FloatOps.cmpfTotal .gt) (Host.negf d) Facts.sliceFits_S1024x100000_S1024x51).1 (ix2 b ⟨j.val, by omega⟩)
  ran : ∃ mn mx : Fin 1024 → EReal, (∀ b x, x ≤ mn b ↔ ∀ r, x ≤ d (ix2 b r)) ∧ (∀ b x, mx b ≤ x ↔ ∀ r, d (ix2 b r) ≤ x)
    ∧ ∀ b, ∃ p < 9, okCount (countAt d b (preRun d b (mn b) (mx b) p).t)

theorem word_top : Ideal.ofBits .f32 0x7F800000#32 = ⊤ := by simp [Ideal.ofBits, Ideal.ieee]

theorem part1 {K : FVec Ideal S100000x64 .f32} {H : FVec Ideal S1024x64 .f32} {d : FVec Ideal S1024x100000 .f32}
    (e : fn_part1 (F := Ideal) K H d (constant S_ .f32 0x49742400#32) = fun _ => 1#1) : Holds K H d := by
  unfold fn_part1 at e
  extract_lets v20 v21 c v22 v23 cst v24 v25 v26 v27 v28 vals inds v29 v30 v31 v32 v33cst v33 v34 cst7 v35 at e
  obtain ⟨hr, e27, e32⟩ := part2 (d := d) (mn := v34) (mx := v35) (a27 := v27) (a32 := v32) e
  obtain ⟨e22, e26⟩ := scalar_and (x := v22) (y := v26) e27
  clear e e27
  refine ⟨fun b k => ?_, fun r k => ?_, fun b j => ?_, _, _, fun b x => ?_, fun b x => ?_, hr⟩
  · have h := reduce_all e22 (ix2 b k)
    have h' : v21 (ix2 b k) = BitVec.ofBool (decide (H (ix2 b k) ≤ million)) := by pointwise [v21, v20, million]
    exact (ofBool_one _).mp (h'.symm.trans h)
  · have h := reduce_all e26 (ix2 r k)
    have h' : v25 (ix2 r k) = BitVec.ofBool (decide (max (K (ix2 r k)) (-K (ix2 r k)) ≤ million)) := rfl
    exact (ofBool_one _).mp (h'.symm.trans h)
  · have h := reduce_all e32 (ix2 b j)
    have h' : v31 (ix2 b j) = BitVec.ofBool (decide (vals (ix2 b ⟨j.val + 1, by omega⟩) < vals (ix2 b ⟨j.val, by omega⟩))) := by
      have a1 : v29 (ix2 b j) = vals (ix2 b ⟨j.val, by omega⟩) := by pointwise [v29]
      have a2 : v30 (ix2 b j) = vals (ix2 b ⟨j.val + 1, by omega⟩) := by
        pointwise [v30]
        exact congrArg (fun i => vals (ix2 b i)) (Fin.ext (Nat.add_comm _ _))
      rw [← a1, ← a2]
      pointwise [v31]
    exact (ofBool_one _).mp (h'.symm.trans h)
  · have h : v34 (ix2 b 0) = Finset.fold min (⊤ : EReal) (fun r : Fin 100000 => d (ix2 b r)) Finset.univ := by
      pointwise [v34, v33, v33cst]
      rw [word_top]
    rw [h, Finset.le_fold_min]
    simp
  · have h : v35 (ix1 b) = Finset.fold max (⊥ : EReal) (fun r : Fin 100000 => d (ix2 b r)) Finset.univ := by
      pointwise [v35, cst7]
      rw [word_bot]
    rw [h, Finset.fold_max_le]
    simp

end Cert.Knn
-- ==== Proof.Nearest.lean ====
/-
  Under the precondition the fifty keys the reference takes are the fifty nearest ones, and the kernel's search is the
  precondition's.
-/
module

public import proofs.«01_k».proof.Proof.Pre

@[expose] public section

set_option maxRecDepth 16384

noncomputable section

namespace Cert.Knn

open Cert.Pre_search_succeeds (S1024x128 S64x128 S64 S100000x64 S1024x64 S1024x100000)
open Idealize.ShloMosaic Idealize.ShloMosaic.TcCoe

/-! ## Sizes -/

theorem word_million : million = ((10 ^ 6 : ℝ) : EReal) := by
  unfold million
  simp [Ideal.ofBits, Ideal.ieee] <;> first | (norm_num; done) | exact congrArg Real.toEReal (by norm_num)
theorem word_two : Ideal.ofBits .f32 0x40000000#32 = ((2 : ℝ) : EReal) := by
  simp [Ideal.ofBits, Ideal.ieee] <;> first | (norm_num; done) | exact congrArg Real.toEReal (by norm_num)
theorem word_far : ∃ w : ℝ, Ideal.ofBits .f32 0x5D5E0B6B#32 = (w : EReal) ∧ 10 ^ 17 ≤ w := by
  refine ⟨(14551915 : ℝ) * 2 ^ 36, ?_, by norm_num⟩
  simp [Ideal.ofBits, Ideal.ieee] <;> first | (norm_num; done) | exact congrArg Real.toEReal (by norm_num)

/-- A distance between real vectors is the sum of the squared differences. -/
theorem dist_real (H : FVec Ideal S1024x64 .f32) (K : FVec Ideal S100000x64 .f32) (b : Fin 1024) (n : ℕ) (h k : Fin 64 → ℝ)
    (hh : ∀ i, H (ix2 b i) = (h i : EReal)) (hk : ∀ i, keyOf K n i = (k i : EReal)) :
    distOf H K b n = ((∑ i, (h i - k i) ^ 2 : ℝ) : EReal) := by
  simp only [distOf, hh, hk, word_two, ← EReal.coe_mul, ← coe_sum_real, ← EReal.coe_add, ← EReal.coe_sub]
  congr 1
  rw [Finset.mul_sum, ← Finset.sum_add_distrib, ← Finset.sum_sub_distrib]
  exact Finset.sum_congr rfl fun i _ => by ring

/-- A projection is not negative. -/
theorem acts_nonneg (x : FVec Ideal S1024x128 .f32) (w : FVec Ideal S64x128 .f32) (v : FVec Ideal S64 .f32) (b : Fin 1024) (k : Fin 64) :
    0 ≤ actsR x w v (ix2 b k) := by
  pointwise [actsR]
  exact le_max_right _ _

variable {D : ℕ → EReal}

/-! ## The fifty nearest -/

theorem place_le {i j : ℕ} (hi : i < 100000) (hj : j < 100000) (h : i ≤ j) : D (placeOf D i hi).val ≤ D (placeOf D j hj).val :=
  EReal.neg_le_neg_iff.mp (order_le (fun r : Fin 100000 => -D r.val) (i := ⟨i, hi⟩) (j := ⟨j, hj⟩) h)

theorem fifty_nearest (hreal : ∀ n < 100000, ∃ d : ℝ, D n = d ∧ 0 ≤ d ∧ d ≤ 10 ^ 15)
    (hpad : ∀ n, 100000 ≤ n → n < 100352 → ((10 ^ 30 : ℝ) : EReal) ≤ D n)
    (hgap : ∀ j (hj : j < 50), D (placeOf D j (by omega)).val < D (placeOf D (j + 1) (by omega)).val) : Fifty D (fifty D) where
  real := hreal
  pad := hpad
  sub n hn := by
    obtain ⟨j, -, rfl⟩ := Finset.mem_image.mp hn
    exact Fin.isLt _
  card := by rw [fifty, Finset.card_image_of_injective _ (nearest_injective D), Finset.card_univ, Fintype.card_fin]
  out i hi q hq hqG := by
    obtain ⟨j, -, rfl⟩ := Finset.mem_image.mp hi
    obtain ⟨⟨p, hp⟩, e⟩ := order_surjective (fun r : Fin 100000 => -D r.val) ⟨q, hq⟩
    have e' : (placeOf D p hp).val = q := congrArg Fin.val e
    have h50 : 50 ≤ p := by
      by_contra hlt
      exact hqG (Finset.mem_image.mpr ⟨⟨p, by omega⟩, Finset.mem_univ _, e'⟩)
    rw [← e']
    have := j.isLt
    exact lt_of_le_of_lt (place_le _ (by omega) (by omega : j.val ≤ 49)) (lt_of_lt_of_le (hgap 49 (by omega)) (place_le _ _ h50))
  inj := by
    have key : ∀ i j : Fin 50, i < j → D (nearest D i).val < D (nearest D j).val := fun i j h =>
      lt_of_lt_of_le (hgap i.val i.isLt) (place_le _ _ h)
    intro a ha b hb e
    obtain ⟨i, -, rfl⟩ := Finset.mem_image.mp ha
    obtain ⟨j, -, rfl⟩ := Finset.mem_image.mp hb
    rcases lt_trichotomy i j with h | rfl | h
    · exact absurd e (key i j h).ne
    · rfl
    · exact absurd e (key j i h).ne'

/-! ## The two searches agree -/

section
variable [Cert.Pre_search_succeeds.Facts] {G : Finset ℕ} {d : FVec Ideal S1024x100000 .f32} {b : Fin 1024} {mn mx : EReal}

theorem countAt_eq (hd : ∀ r : Fin 100000, d (ix2 b r) = D r.val) (t : EReal) : countAt d b t = ((below D t).card : EReal) := by
  simp only [countAt, hd]
  rw [Fin.sum_univ_eq_sum_range (fun n => if D n ≤ t then (1 : EReal) else 0) 100000, ← Finset.sum_filter, Finset.sum_const, EReal.nsmul_eq_mul, mul_one]
  rfl

theorem runs_agree (h : Fifty D G) (x : Ext D mn mx) (hd : ∀ r : Fin 100000, d (ix2 b r) = D r.val) (p : ℕ) :
    preRun d b mn mx p = (searchRun D mn mx p).1 ∧ countAt d b (preRun d b mn mx p).t = cntAll D (searchRun D mn mx p).1.t := by
  obtain ⟨a, z, ha, hz, haz, hzz, -⟩ := ends h x
  have hc : ∀ p, cntAll D (searchRun D mn mx p).1.t = ((below D (searchRun D mn mx p).1.t).card : EReal) := fun p =>
    cntAll_eq h hzz (run_t_le h ha hz haz p)
  induction p with
  | zero => exact ⟨rfl, by rw [hc, countAt_eq hd]; rfl⟩
  | succ p ih =>
    have e : preRun d b mn mx (p + 1) = (searchRun D mn mx (p + 1)).1 := by
      rw [preRun, searchRun_succ, ih.2, ih.1]
    exact ⟨e, by rw [hc, countAt_eq hd, e]⟩

theorem ext_least {mn' : EReal} (h : Fifty D G) (x : Ext D mn mx) (hd : ∀ r : Fin 100000, d (ix2 b r) = D r.val)
    (h1 : ∀ y, y ≤ mn' ↔ ∀ r, y ≤ d (ix2 b r)) : mn' = mn := by
  have h0 := (h1 mn').mp le_rfl
  apply le_antisymm
  · rw [x.mn]
    refine ⟨(h0 ⟨0, by norm_num⟩).trans ?_, fun n hn => ?_⟩
    · rw [hd]; exact (h.lt_big (by norm_num)).le
    · rw [← hd ⟨n, hn⟩]; exact h0 _
  · rw [h1]
    intro r
    rw [hd]
    exact ((x.mn mn).mp le_rfl).2 _ r.isLt

theorem ext_greatest {mx' : EReal} (h : Fifty D G) (x : Ext D mn mx) (hd : ∀ r : Fin 100000, d (ix2 b r) = D r.val)
    (h1 : ∀ y, mx' ≤ y ↔ ∀ r, d (ix2 b r) ≤ y) : mx' = mx := by
  have h0 := (h1 mx').mp le_rfl
  apply le_antisymm
  · rw [h1]
    intro r
    rw [hd]
    exact ((x.mx mx).mp le_rfl).2 _ r.isLt
  · rw [x.mx]
    refine ⟨?_, fun n hn => ?_⟩
    · refine le_trans ?_ (h0 ⟨0, by norm_num⟩)
      obtain ⟨e, he, h2, -⟩ := h.real 0 (by norm_num)
      rw [hd, he, word_nbig, EReal.coe_le_coe_iff]
      refine le_trans ?_ h2
      norm_num
    · rw [← hd ⟨n, hn⟩]; exact h0 _
end

end Cert.Knn
-- ==== Proof.Value.lean ====
/-
  Under the precondition, the value the kernel ends with at a row is the reference's.
-/
module

public import proofs.«01_k».proof.Proof.Nearest

@[expose] public section

set_option maxRecDepth 16384

noncomputable section

namespace Cert.Knn

open Cert.Pre_search_succeeds (S1024x128 S64x128 S64 S100000x64 S1024x64 S1024x100000 S1024x51 S1024x1)
open Idealize.ShloMosaic Idealize.ShloMosaic.TcCoe
open Idealize.SL.Sem

variable [Cert.Pre_search_succeeds.Facts]

section
variable {K : FVec Ideal S100000x64 .f32} {H : FVec Ideal S1024x64 .f32}

/-- A projection is a real number from zero to a million. -/
theorem acts_real (h : Holds K H (distR H K)) (h0 : ∀ b k, 0 ≤ H (ix2 b k)) (b : Fin 1024) (k : Fin 64) :
    ∃ r : ℝ, H (ix2 b k) = r ∧ 0 ≤ r ∧ r ≤ 10 ^ 6 :=
  real_between (h0 b k) ((h.small b k).trans_eq word_million)

/-- A key's entry is a real number of at most a million. -/
theorem key_real (h : Holds K H (distR H K)) (n : ℕ) (hn : n < 100000) (k : Fin 64) :
    ∃ r : ℝ, keyOf K n k = r ∧ -10 ^ 6 ≤ r ∧ r ≤ 10 ^ 6 := by
  have e : keyOf K n k = K (ix2 ⟨n, hn⟩ k) := dif_pos hn
  have h1 := (h.keys ⟨n, hn⟩ k).trans_eq word_million
  rw [e]
  refine real_between ?_ ((le_max_left _ _).trans h1)
  rw [EReal.coe_neg]
  exact EReal.neg_le_of_neg_le ((le_max_right _ _).trans h1)

/-- The padding's key entry. -/
theorem key_far (n : ℕ) (hn : 100000 ≤ n) (k : Fin 64) : keyOf K n k = Ideal.ofBits .f32 0x5D5E0B6B#32 := dif_neg (by omega)

/-- Under the precondition a row is as the search needs it. -/
theorem fifty_row (h : Holds K H (distR H K)) (h0 : ∀ b k, 0 ≤ H (ix2 b k)) (b : Fin 1024) : Fifty (distOf H K b) (fifty (distOf H K b)) := by
  choose a ha ha0 ha1 using acts_real h h0 b
  refine fifty_nearest (fun n hn => ?_) (fun n hn _ => ?_) fun j hj => ?_
  · choose k hk hk0 hk1 using key_real h n hn
    refine ⟨_, dist_real H K b n a k ha hk, Finset.sum_nonneg fun i _ => sq_nonneg _, ?_⟩
    calc ∑ i, (a i - k i) ^ 2 ≤ ∑ _i : Fin 64, (4 * 10 ^ 12 : ℝ) := Finset.sum_le_sum fun i _ => by nlinarith [ha0 i, ha1 i, hk0 i, hk1 i]
      _ ≤ 10 ^ 15 := by simp; norm_num
  · obtain ⟨w, hw, hw1⟩ := word_far
    rw [dist_real H K b n a (fun _ => w) ha (fun k => (key_far n hn k).trans hw), EReal.coe_le_coe_iff]
    calc (10 ^ 30 : ℝ) ≤ ∑ _i : Fin 64, (10 ^ 32 : ℝ) := by simp; norm_num
      _ ≤ ∑ i, (a i - w) ^ 2 := Finset.sum_le_sum fun i _ => by nlinarith [ha0 i, ha1 i]
  · have hg := h.gaps b ⟨j, hj⟩
    have e := fun (i : Fin 51) => (topK_dist H K b Cert.Pre_search_succeeds.Facts.sliceFits_S1024x100000_S1024x51 i (by have := i.isLt; omega)).1
    exact EReal.neg_lt_neg_iff.mp ((e ⟨j + 1, by omega⟩).symm.trans_lt (hg.trans_eq (e ⟨j, by omega⟩)))
end

section
variable {D W : ℕ → EReal} {G : Finset ℕ} {d : FVec Ideal S1024x100000 .f32} {b : Fin 1024} {mn mx : EReal} {R : EReal}

/-- The precondition's search met an accepted count, so the kernel's does. -/
theorem search_meets (hF : Fifty D G) (x : Ext D mn mx) (hd : ∀ r : Fin 100000, d (ix2 b r) = D r.val)
    (hr : ∃ mn mx : Fin 1024 → EReal, (∀ b x, x ≤ mn b ↔ ∀ r, x ≤ d (ix2 b r)) ∧ (∀ b x, mx b ≤ x ↔ ∀ r, d (ix2 b r) ≤ x)
      ∧ ∀ b, ∃ p < 9, okCount (countAt d b (preRun d b (mn b) (mx b) p).t)) :
    ∃ p < 9, okCount (cntAll D (searchRun D mn mx p).1.t) := by
  obtain ⟨mn', mx', a1, a2, hr⟩ := hr
  obtain ⟨p, hp, ho⟩ := hr b
  rw [ext_least hF x hd (a1 b), ext_greatest hF x hd (a2 b), (runs_agree hF x hd p).2] at ho
  exact ⟨p, hp, ho⟩

/-- A quotient of sums over the fifty is the mean of their values. -/
theorem mean_fifty (hF : Fifty D (fifty D)) (hR : R = Ideal.div (∑ n ∈ fifty D, wgt (D n) * W n) (∑ n ∈ fifty D, wgt (D n))) :
    R = ∑ j, Ideal.div (wgt (D (nearest D j).val)) (∑ l, wgt (D (nearest D l).val)) * W (nearest D j).val := by
  rw [hR, mean_eq, sum_fifty, sum_fifty]
  · intro n hn
    obtain ⟨d, e, hd0, -⟩ := hF.real n (hF.sub n hn)
    rw [e]
    exact wgt_pos hd0
  · rw [← Finset.card_pos, hF.card]
    norm_num

/-- What a row ends with, as the kernel's run states it. -/
def Ends6 (D W : ℕ → EReal) (mn mx R : EReal) : Prop :=
  ∀ k l, (searchRun D mn mx 9).2 = k → lists D W k.lov k.hiv 49 = l →
    ∀ use : ℕ → Prop, (∀ i < 6, use i ↔ ((i + 1 : ℕ) : EReal) ≤ Ideal.ofBits .f32 0x42480000#32 - k.clo ∧ l.1 i < big) →
      R = Ideal.div
        ((∑ n ∈ Finset.range 100352, @ite _ (D n ≤ k.lov) (Classical.propDecidable _) (wgt (D n) * W n) 0) + ∑ i ∈ Finset.range 6, @ite _ (use i) (Classical.propDecidable _) (wgt (l.1 i) * l.2 i) 0)
        ((∑ n ∈ Finset.range 100352, @ite _ (D n ≤ k.lov) (Classical.propDecidable _) (wgt (D n)) 0) + ∑ i ∈ Finset.range 6, @ite _ (use i) (Classical.propDecidable _) (wgt (l.1 i)) 0)

theorem row_quotient (hF : Fifty D G) (x : Ext D mn mx) (hf : ∃ p < 9, okCount (cntAll D (searchRun D mn mx p).1.t)) (hR : Ends6 D W mn mx R) :
    R = Ideal.div (∑ n ∈ G, wgt (D n) * W n) (∑ n ∈ G, wgt (D n)) := by
  refine row_value hF x hf ?_
  intro k l use hu _
  have h := hR k l rfl rfl
  clear_value l
  clear_value k
  convert h use hu

theorem row_ends {V : (c : Dev Cert.KernelIdeal.nD) → (b : Ref Cert.KernelIdeal.sig .tc) → Buf (Elt Ideal) ((c : Thread Cert.KernelIdeal.nD Cert.KernelIdeal.τ).loc b)} {c : Dev Cert.KernelIdeal.nD} (r : Row V c b D W) :
    ∃ mn mx, Ext D mn mx ∧ Ends6 D W mn mx (stOut (sAt V c 539) (ix2 b 0)) := by
  obtain ⟨mn, mx, e1, e2, hR⟩ := row_out r
  refine ⟨mn, mx, ⟨e1, e2⟩, ?_⟩
  intro k l hk hl
  subst hk
  subst hl
  intro use hu
  convert hR use hu
end

variable (m : (ℓ : Loc Cert.KernelIdeal.nD Cert.KernelIdeal.τ Cert.KernelIdeal.sig) → Buf (Elt Ideal) ℓ) (c : Dev Cert.KernelIdeal.nD)

theorem valOf_fin (n : Fin 100000) : valOf m c n.val = argV m c (ix2 n 0) := valOf_lt m c n.val n.isLt

theorem value_mean (h : Holds (argK m c) (actsK m c) (distR (actsK m c) (argK m c))) (h0 : ∀ b k, 0 ≤ actsK m c (ix2 b k)) (b : Fin 1024) :
    stOut (sAt (found2 m) c 539) (ix2 b 0)
      = ∑ j, Ideal.div (wgt (distOf (actsK m c) (argK m c) b (nearest (distOf (actsK m c) (argK m c) b) j).val)) (∑ l, wgt (distOf (actsK m c) (argK m c) b (nearest (distOf (actsK m c) (argK m c) b) l).val))
          * valOf m c (nearest (distOf (actsK m c) (argK m c) b) j).val := by
  obtain ⟨mn, mx, x, hR⟩ := row_ends (row m c b)
  have hF := fifty_row h h0 b
  have hd : ∀ r : Fin 100000, distR (actsK m c) (argK m c) (ix2 b r) = distOf (actsK m c) (argK m c) b r.val := fun r => distR_at _ _ b r
  exact mean_fifty hF (row_quotient hF x (search_meets hF x hd h.ran) hR)

/-- The kernel's value at a row is the reference's. -/
theorem value_row (h : Holds (argK m c) (actsK m c) (distR (actsK m c) (argK m c))) (h0 : ∀ b k, 0 ≤ actsK m c (ix2 b k)) (b : Fin 1024) (hs) :
    stOut (sAt (found2 m) c 539) (ix2 b 0)
      = valueR (Host.topK Cert.ReferenceIdeal.S1024x50 1 (FloatOps.cmpfTotal .gt) (Host.negf (distR (actsK m c) (argK m c))) hs).1
          (Host.topK Cert.ReferenceIdeal.S1024x50 1 (FloatOps.cmpfTotal .gt) (Host.negf (distR (actsK m c) (argK m c))) hs).2 (argV m c) (ix2 b 0) := by
  have e1 := value_mean m c h h0 b
  have e2 := valueR_at (actsK m c) (argK m c) (argV m c) b hs
  generalize valueR _ _ _ = y at e2 ⊢
  generalize stOut (sAt (found2 m) c 539) (ix2 b 0) = z at e1 ⊢
  rw [e1, e2]
  refine Finset.sum_congr rfl fun j _ => ?_
  rw [valOf_fin]

end Cert.Knn
-- ==== Proof.Frames.lean ====
/-
  The frame of the program as printed at the machine's numbers: it is the same program as the one at the exact numbers, so the
  same run is its run.
-/
module

public import proofs.«01_k».proof.Defs
public import proofs.«01_k».proof.Proof.Run
public import proofs.«01_k».proof.Proof.Gen.Kernel.Launch

@[expose] public section

set_option maxRecDepth 65536

noncomputable section

namespace Cert.Knn

open Idealize.ShloMosaic Idealize.ShloMosaic.TcCoe
open Idealize.SL.Sem

variable {F : FTy → Type} [FloatOps F]

set_option maxHeartbeats 8000000

/-- The two programs' kernel bodies are the same. -/
theorem head_same : @Cert.Kernel.cc0__head_body F _ Cert.Kernel.Gen.facts = @Cert.KernelIdeal.cc0__head_body F _ Cert.KernelIdeal.Gen.facts := rfl
theorem body_same : @Cert.Kernel.cc1__main_body F _ Cert.Kernel.Gen.facts = @Cert.KernelIdeal.cc1__main_body F _ Cert.KernelIdeal.Gen.facts := rfl

/-- So are their tables of bodies. -/
theorem table_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => ?_)
  match l with
  | ⟨0, _⟩ => exact funext fun ⟨t, s⟩ => rfl
  | ⟨1, _⟩ => exact funext fun ⟨t, s⟩ => rfl
  | ⟨n + 2, h⟩ => exact absurd h (Nat.not_lt.2 (Nat.le_add_left _ _))

/-- So are their definitions with the pipelines in. -/
theorem defs_same : @Cert.Kernel.defs F _ Cert.Kernel.Gen.facts = @Cert.KernelIdeal.defs F _ Cert.KernelIdeal.Gen.facts :=
  congrArg (Pipeline.defs (Cert.KernelIdeal.pcfgs (F := F))) (table_same (F := F))

/-- So are their entry functions. -/
theorem main_same : @Cert.Kernel.main F _ Cert.Kernel.Gen.facts = @Cert.KernelIdeal.main F _ Cert.KernelIdeal.Gen.facts := rfl

theorem frame_machine : Cert.quiescent_Kernel (hKernel := Cert.Kernel.Gen.facts) := fun m g _ => by
  have h := run_frame (F := Bits) m g
  rw [← defs_same, ← main_same] at h
  exact h

theorem frame_exact : Cert.quiescent_KernelIdeal (hKernelIdeal := Cert.KernelIdeal.Gen.facts) := fun m g _ =>
  run_frame m g

end Cert.Knn

end
-- ==== Proof.Final.lean ====
/-
  The claims about the reference and about the pair: the reference's own run, and the kernel's results equal to its.
-/
module

public import proofs.«01_k».proof.Proof.Value
public import proofs.«01_k».proof.Proof.Frames
public import proofs.«01_k».proof.Proof.Gen.ReferenceIdeal.Run
public import Idealize.ShloMosaic.Lib.Quiescent

@[expose] public section

set_option maxRecDepth 16384

noncomputable section

namespace Cert.Knn

open Idealize.ShloMosaic Idealize.ShloMosaic.TcCoe
open Idealize.SL.Sem

/-! ## The reference's run -/

section
open Cert.ReferenceIdeal Cert.ReferenceIdeal.Gen
variable (m : (ℓ : Loc nD τ sig) → Buf (Elt Ideal) ℓ) (c : Dev nD)

/-- The reference's value result is its last stage at the fifty nearest. -/
theorem ref_value {x : FVec Ideal S1024x128 .f32} {w : FVec Ideal S64x128 .f32} {v : FVec Ideal S64 .f32} {K : FVec Ideal S100000x64 .f32} {V : FVec Ideal S100000x1 .f32}
    (h0 : m ((c.tc : Thread nD τ).loc main_arg0) = x) (h1 : m ((c.tc : Thread nD τ).loc main_arg1) = w) (h2 : m ((c.tc : Thread nD τ).loc main_arg2) = v)
    (h5 : m ((c.tc : Thread nD τ).loc main_arg5) = K) (h6 : m ((c.tc : Thread nD τ).loc main_arg6) = V) :
    Cert.ReferenceIdeal.Value.res_main_v50 m c = valueR (Host.topK S1024x50 1 (FloatOps.cmpfTotal .gt) (Host.negf (distR (actsR x w v) K)) sliceFits_S1024x100000_S1024x50).1
      (Host.topK S1024x50 1 (FloatOps.cmpfTotal .gt) (Host.negf (distR (actsR x w v) K)) sliceFits_S1024x100000_S1024x50).2 V := by
  unfold Cert.ReferenceIdeal.Value.res_main_v50
  rw [h0, h1, h2, h5, h6]
  rfl
end

theorem ref_quiescent (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2.2.2, sem_eq_zero_of_no_sems rfl r.2⟩) (Cert.ReferenceIdeal.Value.run m g)

/-! ## The kernel's results are the reference's -/

section
variable (m : (ℓ : Loc Cert.KernelIdeal.nD Cert.KernelIdeal.τ Cert.KernelIdeal.sig) → Buf (Elt Ideal) ℓ) (c : Dev Cert.KernelIdeal.nD)

theorem acts_eq : actsK m c = actsR (argX m c) (argW m c) (argB m c) := acts_same _ _ _

theorem probs_eq : probsK m c = normR (expsR (logitsR (actsR (argX m c) (argW m c) (argB m c)) (argP m c) (argQ m c))) := probs_same _ _ _ _ _

variable [Cert.Pre_search_succeeds.Facts]

/-- The precondition's contents, of the kernel's arguments. -/
theorem holds_of (h : Cert.Pre_search_succeeds.fn (F := Ideal) (argX m c) (argW m c) (argB m c) (argP m c) (argQ m c) (argK m c) (argV m c) = fun _ => 1#1) :
    Holds (argK m c) (actsK m c) (distR (actsK m c) (argK m c)) := by
  rw [acts_eq]
  exact part1 ((fn_eq _ _ _ _ _ _ _).symm.trans h)

/-- The kernel's value result is the reference's. -/
theorem value_eq (h : Cert.Pre_search_succeeds.fn (F := Ideal) (argX m c) (argW m c) (argB m c) (argP m c) (argQ m c) (argK m c) (argV m c) = fun _ => 1#1) (hs) :
    stOut (sAt (found2 m) c 539)
      = valueR (Host.topK Cert.ReferenceIdeal.S1024x50 1 (FloatOps.cmpfTotal .gt) (Host.negf (distR (actsR (argX m c) (argW m c) (argB m c)) (argK m c))) hs).1
          (Host.topK Cert.ReferenceIdeal.S1024x50 1 (FloatOps.cmpfTotal .gt) (Host.negf (distR (actsR (argX m c) (argW m c) (argB m c)) (argK m c))) hs).2 (argV m c) := by
  have hv := fun b => value_row m c (holds_of m c h) (fun b k => by rw [acts_eq]; exact acts_nonneg _ _ _ b k) b hs
  rw [acts_eq] at hv
  funext i
  rw [ValueIdx.eq_ix2 i]
  have e : i 1 = (0 : Fin 1) := @Subsingleton.elim (Fin 1) _ _ _
  rw [e]
  exact hv _
end

theorem results_equal (hp : Cert.Pre_search_succeeds.Facts) :
    Cert.algebraic_KernelIdeal_ReferenceIdeal_pre_search_succeeds (hKernelIdeal := Cert.KernelIdeal.Gen.facts) (hReferenceIdeal := Cert.ReferenceIdeal.Gen.facts) (hPre_search_succeeds := hp) := by
  intro m g m' g' hpre hag
  refine ⟨fun c => probsK m c, fun c => stOut (sAt (found2 m) c 539), fun c => actsK m c, ?_, ?_⟩
  · refine (θ_run _ _ _).mono (fun r h c => ?_) (run m g)
    exact ⟨(h.1 c Cert.KernelIdeal.main_v0_1 rfl).trans (probs_end m c), (h.1 c Cert.KernelIdeal.main_v5 rfl).trans (value_end m c),
      (h.1 c Cert.KernelIdeal.main_v0_0 rfl).trans (acts_end m c),
      (h.1 c Cert.KernelIdeal.main_arg0 rfl).trans (Cert.KernelIdeal.Gen.V7_main_arg0 m (outs m) c), (h.1 c Cert.KernelIdeal.main_arg1 rfl).trans (Cert.KernelIdeal.Gen.V7_main_arg1 m (outs m) c),
      (h.1 c Cert.KernelIdeal.main_arg2 rfl).trans (Cert.KernelIdeal.Gen.V7_main_arg2 m (outs m) c), (h.1 c Cert.KernelIdeal.main_arg3 rfl).trans (Cert.KernelIdeal.Gen.V7_main_arg3 m (outs m) c),
      (h.1 c Cert.KernelIdeal.main_arg4 rfl).trans (Cert.KernelIdeal.Gen.V7_main_arg4 m (outs m) c), (h.1 c Cert.KernelIdeal.main_arg5 rfl).trans (Cert.KernelIdeal.Gen.V7_main_arg5 m (outs m) c),
      (h.1 c Cert.KernelIdeal.main_arg6 rfl).trans (Cert.KernelIdeal.Gen.V7_main_arg6 m (outs m) c)⟩
  · refine (θ_run _ _ _).mono (fun r h c => ?_) (Cert.ReferenceIdeal.Value.run m' g')
    obtain ⟨h0, h1, h2, h3, h4, h5, h6⟩ := hag c
    obtain ⟨r0, r1, r2, ra⟩ := h c
    refine ⟨r0.trans ?_, r1.trans ?_, r2.trans ?_, ra⟩
    · rw [h0, h1, h2, h3, h4]
      exact (probs_eq m c).symm
    · exact (ref_value m' c h0 h1 h2 h5 h6).trans (value_eq m c (hpre c) _).symm
    · rw [h0, h1, h2]
      exact (acts_eq m c).symm

end Cert.Knn
-- ==== Proof.lean ====
/-
  The proof of the claim: the two programs' frames, the reference's, and the kernel's results equal to the reference's under the
  precondition.  The parts are in the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Final
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts, Cert.Knn.pre_facts,
  Cert.Knn.frame_machine, Cert.Knn.frame_exact, fun m g _ => Cert.Knn.run_frame m g, fun m g _ => Cert.Knn.ref_quiescent m g,
  fun m g _ => Cert.Knn.ref_quiescent m g, trivial, Cert.Knn.results_equal Cert.Knn.pre_facts⟩

end Cert.Proof

end
